-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Reference8Ideal (m : (ℓ : Loc Cert.Reference8Ideal.nD Cert.Reference8Ideal.τ Cert.Reference8Ideal.sig) → Buf (Elt Ideal) ℓ) : Prop :=
  True

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3)
      ∧ r.2.mem ((c.tc : Thread Cert.Kernel20.nD Cert.Kernel20.τ).loc Cert.Kernel20.main_arg4) = m ((c.tc : Thread Cert.Kernel20.nD Cert.Kernel20.τ).loc Cert.Kernel20.main_arg4)
      ∧ r.2.mem ((c.tc : Thread Cert.Kernel20.nD Cert.Kernel20.τ).loc Cert.Kernel20.main_arg5) = m ((c.tc : Thread Cert.Kernel20.nD Cert.Kernel20.τ).loc Cert.Kernel20.main_arg5))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
      ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
      ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3)
      ∧ r.2.mem ((c.tc : Thread Cert.Reference20Ideal.nD Cert.Reference20Ideal.τ).loc Cert.Reference20Ideal.main_arg4) = m ((c.tc : Thread Cert.Reference20Ideal.nD Cert.Reference20Ideal.τ).loc Cert.Reference20Ideal.main_arg4)
      ∧ r.2.mem ((c.tc : Thread Cert.Reference20Ideal.nD Cert.Reference20Ideal.τ).loc Cert.Reference20Ideal.main_arg5) = m ((c.tc : Thread Cert.Reference20Ideal.nD Cert.Reference20Ideal.τ).loc Cert.Reference20Ideal.main_arg5))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v3) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)) →
    ∃ (v0 : (c : Dev Cert.Kernel2Ideal.nD) → Buf (Elt Ideal) ((c.tc : Thread Cert.Kernel2Ideal.nD Cert.Kernel2Ideal.τ).loc Cert.Kernel2Ideal.main_v13_0)) (v1 : (c : Dev Cert.Kernel2Ideal.nD) → Buf (Elt Ideal) ((c.tc : Thread Cert.Kernel2Ideal.nD Cert.Kernel2Ideal.τ).loc Cert.Kernel2Ideal.main_v13_1)) (v2 : (c : Dev Cert.Kernel2Ideal.nD) → Buf (Elt Ideal) ((c.tc : Thread Cert.Kernel2Ideal.nD Cert.Kernel2Ideal.τ).loc Cert.Kernel2Ideal.main_v13_2)) (v3 : (c : Dev Cert.Kernel2Ideal.nD) → Buf (Elt Ideal) ((c.tc : Thread Cert.Kernel2Ideal.nD Cert.Kernel2Ideal.τ).loc Cert.Kernel2Ideal.main_v13_3)) (v4 : (c : Dev Cert.Kernel2Ideal.nD) → Buf (Elt Ideal) ((c.tc : Thread Cert.Kernel2Ideal.nD Cert.Kernel2Ideal.τ).loc Cert.Kernel2Ideal.main_v13_4)) (v5 : (c : Dev Cert.Kernel2Ideal.nD) → Buf (Elt Ideal) ((c.tc : Thread Cert.Kernel2Ideal.nD Cert.Kernel2Ideal.τ).loc Cert.Kernel2Ideal.main_v13_5)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v13_0) = v0 c
          ∧ r.2.mem ((c.tc : Thread Cert.Kernel2Ideal.nD Cert.Kernel2Ideal.τ).loc Cert.Kernel2Ideal.main_v13_1) = v1 c
          ∧ r.2.mem ((c.tc : Thread Cert.Kernel2Ideal.nD Cert.Kernel2Ideal.τ).loc Cert.Kernel2Ideal.main_v13_2) = v2 c
          ∧ r.2.mem ((c.tc : Thread Cert.Kernel2Ideal.nD Cert.Kernel2Ideal.τ).loc Cert.Kernel2Ideal.main_v13_3) = v3 c
          ∧ r.2.mem ((c.tc : Thread Cert.Kernel2Ideal.nD Cert.Kernel2Ideal.τ).loc Cert.Kernel2Ideal.main_v13_4) = v4 c
          ∧ r.2.mem ((c.tc : Thread Cert.Kernel2Ideal.nD Cert.Kernel2Ideal.τ).loc Cert.Kernel2Ideal.main_v13_5) = v5 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v167) = v0 c
          ∧ r.2.mem ((c.tc : Thread Cert.Reference2Ideal.nD Cert.Reference2Ideal.τ).loc Cert.Reference2Ideal.main_v169) = v1 c
          ∧ r.2.mem ((c.tc : Thread Cert.Reference2Ideal.nD Cert.Reference2Ideal.τ).loc Cert.Reference2Ideal.main_v170) = v2 c
          ∧ r.2.mem ((c.tc : Thread Cert.Reference2Ideal.nD Cert.Reference2Ideal.τ).loc Cert.Reference2Ideal.main_v171) = v3 c
          ∧ r.2.mem ((c.tc : Thread Cert.Reference2Ideal.nD Cert.Reference2Ideal.τ).loc Cert.Reference2Ideal.main_v101) = v4 c
          ∧ r.2.mem ((c.tc : Thread Cert.Reference2Ideal.nD Cert.Reference2Ideal.τ).loc Cert.Reference2Ideal.main_v99) = v5 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)) →
    ∃ (v0 : (c : Dev Cert.Kernel3Ideal.nD) → Buf (Elt Ideal) ((c.tc : Thread Cert.Kernel3Ideal.nD Cert.Kernel3Ideal.τ).loc Cert.Kernel3Ideal.main_v2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v2) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v3) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v2)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v2) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v4) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v2) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v4) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)) →
    ∃ (v0 : (c : Dev Cert.Kernel6Ideal.nD) → Buf (Elt Ideal) ((c.tc : Thread Cert.Kernel6Ideal.nD Cert.Kernel6Ideal.τ).loc Cert.Kernel6Ideal.main_v2_0)) (v1 : (c : Dev Cert.Kernel6Ideal.nD) → Buf (Elt Ideal) ((c.tc : Thread Cert.Kernel6Ideal.nD Cert.Kernel6Ideal.τ).loc Cert.Kernel6Ideal.main_v2_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v2_0) = v0 c
          ∧ r.2.mem ((c.tc : Thread Cert.Kernel6Ideal.nD Cert.Kernel6Ideal.τ).loc Cert.Kernel6Ideal.main_v2_1) = v1 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v8) = v0 c
          ∧ r.2.mem ((c.tc : Thread Cert.Reference6Ideal.nD Cert.Reference6Ideal.τ).loc Cert.Reference6Ideal.main_v11) = v1 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)) →
    ∃ (v0 : (c : Dev Cert.Kernel7Ideal.nD) → Buf (Elt Ideal) ((c.tc : Thread Cert.Kernel7Ideal.nD Cert.Kernel7Ideal.τ).loc Cert.Kernel7Ideal.main_v2)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v2) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v1) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1))

def preserves_Kernel8_Kernel8Ideal : Prop :=
  True

def algebraic_Kernel8Ideal_Reference8Ideal [hKernel8Ideal : Cert.Kernel8Ideal.Facts] [hReference8Ideal : Cert.Reference8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)) →
    ∃ (v0 : (c : Dev Cert.Kernel8Ideal.nD) → Buf (Elt Ideal) ((c.tc : Thread Cert.Kernel8Ideal.nD Cert.Kernel8Ideal.τ).loc Cert.Kernel8Ideal.main_v2)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v2) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v2) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)) →
    ∃ (v0 : (c : Dev Cert.Kernel9Ideal.nD) → Buf (Elt Ideal) ((c.tc : Thread Cert.Kernel9Ideal.nD Cert.Kernel9Ideal.τ).loc Cert.Kernel9Ideal.main_v2)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v2) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v1) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)) →
    ∃ (v0 : (c : Dev Cert.Kernel10Ideal.nD) → Buf (Elt Ideal) ((c.tc : Thread Cert.Kernel10Ideal.nD Cert.Kernel10Ideal.τ).loc Cert.Kernel10Ideal.main_v2)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v2) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v4) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v2)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v2) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v4) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v2)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v2) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v4) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v2)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v2) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v3) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)) →
    ∃ (v0 : (c : Dev Cert.Kernel14Ideal.nD) → Buf (Elt Ideal) ((c.tc : Thread Cert.Kernel14Ideal.nD Cert.Kernel14Ideal.τ).loc Cert.Kernel14Ideal.main_v2)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v2) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v2) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)) →
    ∃ (v0 : (c : Dev Cert.Kernel15Ideal.nD) → Buf (Elt Ideal) ((c.tc : Thread Cert.Kernel15Ideal.nD Cert.Kernel15Ideal.τ).loc Cert.Kernel15Ideal.main_v2)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v2) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v1) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)) →
    ∃ (v0 : (c : Dev Cert.Kernel16Ideal.nD) → Buf (Elt Ideal) ((c.tc : Thread Cert.Kernel16Ideal.nD Cert.Kernel16Ideal.τ).loc Cert.Kernel16Ideal.main_v2)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v2) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v4) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v2)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v2) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v3) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)) →
    ∃ (v0 : (c : Dev Cert.Kernel18Ideal.nD) → Buf (Elt Ideal) ((c.tc : Thread Cert.Kernel18Ideal.nD Cert.Kernel18Ideal.τ).loc Cert.Kernel18Ideal.main_v2)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v2) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v4) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)) →
    ∃ (v0 : (c : Dev Cert.Kernel19Ideal.nD) → Buf (Elt Ideal) ((c.tc : Thread Cert.Kernel19Ideal.nD Cert.Kernel19Ideal.τ).loc Cert.Kernel19Ideal.main_v2)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v2) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v3) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)
      ∧ m' ((c.tc : Thread Cert.Reference20Ideal.nD Cert.Reference20Ideal.τ).loc Cert.Reference20Ideal.main_arg4) = m ((c.tc : Thread Cert.Kernel20Ideal.nD Cert.Kernel20Ideal.τ).loc Cert.Kernel20Ideal.main_arg4)
      ∧ m' ((c.tc : Thread Cert.Reference20Ideal.nD Cert.Reference20Ideal.τ).loc Cert.Reference20Ideal.main_arg5) = m ((c.tc : Thread Cert.Kernel20Ideal.nD Cert.Kernel20Ideal.τ).loc Cert.Kernel20Ideal.main_arg5)) →
    ∃ (v0 : (c : Dev Cert.Kernel20Ideal.nD) → Buf (Elt Ideal) ((c.tc : Thread Cert.Kernel20Ideal.nD Cert.Kernel20Ideal.τ).loc Cert.Kernel20Ideal.main_v11)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v11) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3)
          ∧ r.2.mem ((c.tc : Thread Cert.Kernel20Ideal.nD Cert.Kernel20Ideal.τ).loc Cert.Kernel20Ideal.main_arg4) = m ((c.tc : Thread Cert.Kernel20Ideal.nD Cert.Kernel20Ideal.τ).loc Cert.Kernel20Ideal.main_arg4)
          ∧ r.2.mem ((c.tc : Thread Cert.Kernel20Ideal.nD Cert.Kernel20Ideal.τ).loc Cert.Kernel20Ideal.main_arg5) = m ((c.tc : Thread Cert.Kernel20Ideal.nD Cert.Kernel20Ideal.τ).loc Cert.Kernel20Ideal.main_arg5))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v73) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3)
          ∧ r.2.mem ((c.tc : Thread Cert.Reference20Ideal.nD Cert.Reference20Ideal.τ).loc Cert.Reference20Ideal.main_arg4) = m' ((c.tc : Thread Cert.Reference20Ideal.nD Cert.Reference20Ideal.τ).loc Cert.Reference20Ideal.main_arg4)
          ∧ r.2.mem ((c.tc : Thread Cert.Reference20Ideal.nD Cert.Reference20Ideal.τ).loc Cert.Reference20Ideal.main_arg5) = m' ((c.tc : Thread Cert.Reference20Ideal.nD Cert.Reference20Ideal.τ).loc Cert.Reference20Ideal.main_arg5))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v2)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v2) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v0) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v2)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v2) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v4) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v2)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v2) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v2) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Reference8Ideal (hReference8Ideal := hReference8Ideal)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14)
    ∧ quiescent_Kernel14Ideal (hKernel14Ideal := hKernel14Ideal)
    ∧ quiescent_Reference14Ideal (hReference14Ideal := hReference14Ideal)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
-- ==== Kernel.lean ====
abbrev S8192x1024 : Shape := ⟨2, ![8192, 1024]⟩
abbrev S1x2816x1024 : Shape := ⟨3, ![1, 2816, 1024]⟩
abbrev S8192x5632 : Shape := ⟨2, ![8192, 5632]⟩
abbrev S512x1024 : Shape := ⟨2, ![512, 1024]⟩
abbrev S1x1408x1024 : Shape := ⟨3, ![1, 1408, 1024]⟩
abbrev S512x2816 : Shape := ⟨2, ![512, 2816]⟩
abbrev S1408x1024 : Shape := ⟨2, ![1408, 1024]⟩
abbrev S512x1408 : Shape := ⟨2, ![512, 1408]⟩

abbrev nBuf : Space → Nat
  | .hbm => 7
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1x2816x1024, .f32⟩
  | .hbm, ⟨2, _⟩ => ⟨S8192x5632, .f32⟩
  | .hbm, ⟨3, _⟩ => ⟨S8192x1024, .bf16⟩
  | .hbm, ⟨4, _⟩ => ⟨S1x2816x1024, .bf16⟩
  | .hbm, ⟨5, _⟩ => ⟨S8192x5632, .bf16⟩
  | .hbm, ⟨6, _⟩ => ⟨S8192x5632, .bf16⟩
  | .local _ .vmem, ⟨0, _⟩ => ⟨S512x1024, .bf16⟩
  | .local _ .vmem, ⟨1, _⟩ => ⟨S512x1024, .bf16⟩
  | .local _ .vmem, ⟨2, _⟩ => ⟨S1x1408x1024, .bf16⟩
  | .local _ .vmem, ⟨3, _⟩ => ⟨S1x1408x1024, .bf16⟩
  | .local _ .vmem, ⟨4, _⟩ => ⟨S512x2816, .bf16⟩
  | .local _ .vmem, ⟨5, _⟩ => ⟨S512x2816, .bf16⟩
  | .local _ .vmem, ⟨6, _⟩ => ⟨S512x2816, .bf16⟩
  | .local _ .vmem, ⟨7, _⟩ => ⟨S512x2816, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, arg1.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1408x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x2816 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== ReferenceIdeal.lean ====
abbrev S8192x1024 : Shape := ⟨2, ![8192, 1024]⟩
abbrev S1x2816x1024 : Shape := ⟨3, ![1, 2816, 1024]⟩
abbrev S8192x5632 : Shape := ⟨2, ![8192, 5632]⟩
abbrev S8192x1408 : Shape := ⟨2, ![8192, 1408]⟩
abbrev S8192x2816 : Shape := ⟨2, ![8192, 2816]⟩
abbrev S_ : Shape := ⟨0, ![]⟩
abbrev S2816x1024 : Shape := ⟨2, ![2816, 1024]⟩

abbrev nBuf : Space → Nat
  | .hbm => 38
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x2816x1024, .f32⟩
  | .hbm, ⟨2, _⟩ => ⟨S8192x5632, .f32⟩
  | .hbm, ⟨3, _⟩ => ⟨S8192x1408, .f32⟩
  | .hbm, ⟨4, _⟩ => ⟨S8192x1408, .f32⟩
  | .hbm, ⟨5, _⟩ => ⟨S8192x2816, .f32⟩
  | .hbm, ⟨6, _⟩ => ⟨S8192x1408, .f32⟩
  | .hbm, ⟨7, _⟩ => ⟨S8192x1408, .f32⟩
  | .hbm, ⟨8, _⟩ => ⟨S8192x2816, .f32⟩
  | .hbm, ⟨9, _⟩ => ⟨S8192x2816, .f32⟩
  | .hbm, ⟨10, _⟩ => ⟨S8192x2816, .f32⟩
  | .hbm, ⟨11, _⟩ => ⟨S_, .f32⟩
  | .hbm, ⟨12, _⟩ => ⟨S8192x2816, .f32⟩
  | .hbm, ⟨13, _⟩ => ⟨S8192x2816, .f32⟩
  | .hbm, ⟨14, _⟩ => ⟨S_, .f32⟩
  | .hbm, ⟨15, _⟩ => ⟨S8192x2816, .f32⟩
  | .hbm, ⟨16, _⟩ => ⟨S8192x2816, .f32⟩
  | .hbm, ⟨17, _⟩ => ⟨S_, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x2816, .f32⟩
  | .hbm, ⟨22, _⟩ => ⟨S8192x2816, .f32⟩
  | .hbm, ⟨23, _⟩ => ⟨S2816x1024, .f32⟩
  | .hbm, ⟨24, _⟩ => ⟨S8192x1024, .f32⟩
  | .hbm, ⟨25, _⟩ => ⟨S8192x2816, .f32⟩
  | .hbm, ⟨26, _⟩ => ⟨S8192x2816, .f32⟩
  | .hbm, ⟨27, _⟩ => ⟨S8192x2816, .f32⟩
  | .hbm, ⟨28, _⟩ => ⟨S8192x2816, .f32⟩
  | .hbm, ⟨29, _⟩ => ⟨S8192x2816, .f32⟩
  | .hbm, ⟨30, _⟩ => ⟨S8192x2816, .f32⟩
  | .hbm, ⟨31, _⟩ => ⟨S8192x2816, .f32⟩
  | .hbm, ⟨32, _⟩ => ⟨S8192x1408, .f32⟩
  | .hbm, ⟨33, _⟩ => ⟨S8192x1408, .f32⟩
  | .hbm, ⟨34, _⟩ => ⟨S8192x1408, .f32⟩
  | .hbm, ⟨35, _⟩ => ⟨S8192x1408, .f32⟩
  | .hbm, ⟨36, _⟩ => ⟨S8192x5632, .f32⟩
  | .hbm, ⟨37, _⟩ => ⟨S8192x5632, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_v0 : Ref sig .tc := ⟨.hbm, 9, rfl⟩
abbrev main_call0_v1 : Ref sig .tc := ⟨.hbm, 10, rfl⟩
abbrev main_call0_cst : Ref sig .tc := ⟨.hbm, 11, rfl⟩
abbrev main_call0_v2 : Ref sig .tc := ⟨.hbm, 12, rfl⟩
abbrev main_call0_v3 : Ref sig .tc := ⟨.hbm, 13, rfl⟩
abbrev main_call0_cst_0 : Ref sig .tc := ⟨.hbm, 14, rfl⟩
abbrev main_call0_v4 : Ref sig .tc := ⟨.hbm, 15, rfl⟩
abbrev main_v6_2 : Ref sig .tc := ⟨.hbm, 16, rfl⟩
abbrev main_call0_cst_1 : Ref sig .tc := ⟨.hbm, 17, rfl⟩
abbrev main_call0_v6 : Ref sig .tc := ⟨.hbm, 18, rfl⟩
abbrev main_call0_v7 : Ref sig .tc := ⟨.hbm, 19, rfl⟩
abbrev main_v6_1 : Ref sig .tc := ⟨.hbm, 20, rfl⟩
abbrev main_v6_0 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_call1_v0 : Ref sig .tc := ⟨.hbm, 28, rfl⟩
abbrev main_call1_v1 : Ref sig .tc := ⟨.hbm, 29, rfl⟩
abbrev main_call1_v2 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_v18 : Ref sig .tc := ⟨.hbm, 36, rfl⟩
abbrev main_v19 : Ref sig .tc := ⟨.hbm, 37, rfl⟩

abbrev nD : Nat := 1
abbrev τ : Topo := Topo.v7x

variable {F : FTy → Type} [FloatOps F]
-- ==== Kernel2.lean ====
abbrev S8192x2048 : Shape := ⟨2, ![8192, 2048]⟩
abbrev S8192x4096 : Shape := ⟨2, ![8192, 4096]⟩
abbrev S4096 : Shape := ⟨1, ![4096]⟩
abbrev S2048 : Shape := ⟨1, ![2048]⟩
abbrev S16x128x128 : Shape := ⟨3, ![16, 128, 128]⟩
abbrev S16x128 : Shape := ⟨2, ![16, 128]⟩
abbrev S_ : Shape := ⟨0, ![]⟩
abbrev S128x128 : Shape := ⟨2, ![128, 128]⟩
abbrev S1x128x128 : Shape := ⟨3, ![1, 128, 128]⟩
abbrev S1x4096 : Shape := ⟨2, ![1, 4096]⟩
abbrev S1x2048 : Shape := ⟨2, ![1, 2048]⟩
abbrev S128x16 : Shape := ⟨2, ![128, 16]⟩
abbrev S256x2048 : Shape := ⟨2, ![256, 2048]⟩
abbrev S256x4096 : Shape := ⟨2, ![256, 4096]⟩
abbrev S256 : Shape := ⟨1, ![256]⟩
abbrev S256x1 : Shape := ⟨2, ![256, 1]⟩
abbrev S128x1 : Shape := ⟨2, ![128, 1]⟩
abbrev S128 : Shape := ⟨1, ![128]⟩

abbrev nBuf : Space → Nat
  | .hbm => 35
  | .vmem => 19
  | .smem => 0
  | _ => 0

abbrev bufTy : (tb : Table) → Fin (tcTables nBuf tb) → BufTy
  | .hbm, ⟨0, _⟩ => ⟨S8192x2048, .f32⟩
  | .hbm, ⟨1, _⟩ => ⟨S8192x4096, .f32⟩
  | .hbm, ⟨2, _⟩ => ⟨S4096, .f32⟩
  | .hbm, ⟨3, _⟩ => ⟨S2048, .f32⟩
  | .hbm, ⟨4, _⟩ => ⟨S2048, .f32⟩
  | .hbm, ⟨5, _⟩ => ⟨S16x128x128, .f32⟩
  | .hbm, ⟨6, _⟩ => ⟨S16x128, .f32⟩
  | .hbm, ⟨7, _⟩ => ⟨S_, .f32⟩
  | .hbm, ⟨8, _⟩ => ⟨S128x128, .f32⟩
  | .hbm, ⟨9, _⟩ => ⟨S128x128, .i32⟩
  | .hbm, ⟨10, _⟩ => ⟨S_, .i32⟩
  | .hbm, ⟨11, _⟩ => ⟨S128x128, .i32⟩
  | .hbm, ⟨12, _⟩ => ⟨S128x128, .i32⟩
  | .hbm, ⟨13, _⟩ => ⟨S128x128, .i32⟩
  | .hbm, ⟨14, _⟩ => ⟨S128x128, .i1⟩
  | .hbm, ⟨15, _⟩ => ⟨S_, .f32⟩
  | .hbm, ⟨16, _⟩ => ⟨S128x128, .f32⟩
  | .hbm, ⟨17, _⟩ => ⟨S128x128, .f32⟩
  | .hbm, ⟨18, _⟩ => ⟨S1x128x128, .f32⟩
  | .hbm, ⟨19, _⟩ => ⟨S16x128x128, .f32⟩
  | .hbm, ⟨20, _⟩ => ⟨S16x128x128, .f32⟩
  | .hbm, ⟨21, _⟩ => ⟨S16x128x128, .bf16⟩
  | .hbm, ⟨22, _⟩ => ⟨S8192x2048, .bf16⟩
  | .hbm, ⟨23, _⟩ => ⟨S8192x4096, .bf16⟩
  | .hbm, ⟨24, _⟩ => ⟨S1x4096, .f32⟩
  | .hbm, ⟨25, _⟩ => ⟨S1x2048, .f32⟩
  | .hbm, ⟨26, _⟩ => ⟨S1x2048, .f32⟩
  | .hbm, ⟨27, _⟩ => ⟨S16x128x128, .bf16⟩
  | .hbm, ⟨28, _⟩ => ⟨S128x16, .f32⟩
  | .hbm, ⟨29, _⟩ => ⟨S8192x4096, .bf16⟩
  | .hbm, ⟨30, _⟩ => ⟨S1x4096, .f32⟩
  | .hbm, ⟨31, _⟩ => ⟨S1x2048, .f32⟩
  | .hbm, ⟨32, _⟩ => ⟨S1x2048, .f32⟩
  | .hbm, ⟨33, _⟩ => ⟨S16x128x128, .f32⟩
  | .hbm, ⟨34, _⟩ => ⟨S128x16, .f32⟩
  | .local _ .vmem, ⟨0, _⟩ => ⟨S256x2048, .bf16⟩
  | .local _ .vmem, ⟨1, _⟩ => ⟨S256x2048, .bf16⟩
  | .local _ .vmem, ⟨2, _⟩ => ⟨S256x4096, .bf16⟩
  | .local _ .vmem, ⟨3, _⟩ => ⟨S256x4096, .bf16⟩
  | .local _ .vmem, ⟨4, _⟩ => ⟨S1x4096, .f32⟩
  | .local _ .vmem, ⟨5, _⟩ => ⟨S1x2048, .f32⟩
  | .local _ .vmem, ⟨6, _⟩ => ⟨S1x2048, .f32⟩
  | .local _ .vmem, ⟨7, _⟩ => ⟨S16x128x128, .bf16⟩
  | .local _ .vmem, ⟨8, _⟩ => ⟨S16x128x128, .bf16⟩
  | .local _ .vmem, ⟨9, _⟩ => ⟨S128x16, .f32⟩
  | .local _ .vmem, ⟨10, _⟩ => ⟨S256x4096, .bf16⟩
  | .local _ .vmem, ⟨11, _⟩ => ⟨S256x4096, .bf16⟩
  | .local _ .vmem, ⟨12, _⟩ => ⟨S1x4096, .f32⟩
  | .local _ .vmem, ⟨13, _⟩ => ⟨S1x2048, .f32⟩
  | .local _ .vmem, ⟨14, _⟩ => ⟨S1x2048, .f32⟩
  | .local _ .vmem, ⟨15, _⟩ => ⟨S16x128x128, .f32⟩
  | .local _ .vmem, ⟨16, _⟩ => ⟨S128x16, .f32⟩
  | .local _ .vmem, ⟨17, _⟩ => ⟨S256x2048, .f32⟩
  | .local _ .vmem, ⟨18, _⟩ => ⟨S256x2048, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_call0_v0 : Ref sig .tc := ⟨.hbm, 9, rfl⟩
abbrev main_call0_c : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_cst : Ref sig .tc := ⟨.hbm, 15, rfl⟩
abbrev main_call0_v5 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13_0 : Ref sig .tc := ⟨.hbm, 29, rfl⟩
abbrev main_v13_1 : Ref sig .tc := ⟨.hbm, 30, rfl⟩
abbrev main_v13_2 : Ref sig .tc := ⟨.hbm, 31, rfl⟩
abbrev main_v13_3 : Ref sig .tc := ⟨.hbm, 32, rfl⟩
abbrev main_v13_4 : Ref sig .tc := ⟨.hbm, 33, rfl⟩
abbrev main_v13_5 : Ref sig .tc := ⟨.hbm, 34, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg13_0 : Ref sig .tc := ⟨.vmem, 16, rfl⟩
abbrev cc0_scratch0 : Ref sig .tc := ⟨.vmem, 17, rfl⟩
abbrev cc0_scratch1 : Ref sig .tc := ⟨.vmem, 18, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem13_0 : DmaSem sig := 16

abbrev nD : Nat := 1
abbrev τ : Topo := Topo.v7x

variable {F : FTy → Type} [FloatOps F]

abbrev grid0 : Pipeline.Grid := ⟨1, ![32], ![false]⟩

def k0_cond2 (i : grid0.Coords) : BitVec 1 :=
  let arg0 : BitVec 32 := BitVec.ofNat 32 (i 0).val
  let c0_i32 : BitVec 32 := 0#32
  let v84 : BitVec 1 := Scalar.cmpi .eq arg0 c0_i32
  let v1292 : BitVec 32 := Scalar.extui v84
  let c0_i32_731 : BitVec 32 := 0#32
  let v1293 : BitVec 1 := Scalar.cmpi .ne v1292 c0_i32_731
  v1293

def k0_cond3 (i : grid0.Coords) : BitVec 1 :=
  let arg0 : BitVec 32 := BitVec.ofNat 32 (i 0).val
  let c0_i32 : BitVec 32 := 0#32
  let v84 : BitVec 1 := Scalar.cmpi .eq arg0 c0_i32
  let v_true : BitVec 1 := 1#1
  let v1294 : BitVec 1 := Scalar.xori v84 v_true
  let v1295 : BitVec 32 := Scalar.extui v1294
  let c0_i32_732 : BitVec 32 := 0#32
  let v1296 : BitVec 1 := Scalar.cmpi .ne v1295 c0_i32_732
  v1296

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x4096 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x2048 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x128x128 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x128x128 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S128x16 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S256x4096 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S1x4096 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x2048 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 1 → Memref sig .tc .vmem S16x128x128 .f32 := fun | 0 => Memref.whole cc0_stg12_0 | ⟨_ + 1, h⟩ => absurd h (Nat.not_lt.2 (Nat.le_add_left _ _))
abbrev sem0_12 : Fin 1 → DmaSem sig := fun | 0 => cc0_sem12_0 | ⟨_ + 1, h⟩ => absurd h (Nat.not_lt.2 (Nat.le_add_left _ _))
abbrev reads0_12 : Fin grid0.rank → Bool := ![false]

abbrev stage0_13 : Fin 1 → Memref sig .tc .vmem S128x16 .f32 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]
-- ==== Reference2Ideal.lean ====
abbrev S8192x2048 : Shape := ⟨2, ![8192, 2048]⟩
abbrev S8192x4096 : Shape := ⟨2, ![8192, 4096]⟩
abbrev S4096 : Shape := ⟨1, ![4096]⟩
abbrev S2048 : Shape := ⟨1, ![2048]⟩
abbrev S16x128x128 : Shape := ⟨3, ![16, 128, 128]⟩
abbrev S16x128 : Shape := ⟨2, ![16, 128]⟩
abbrev S_ : Shape := ⟨0, ![]⟩
abbrev S128x128 : Shape := ⟨2, ![128, 128]⟩
abbrev S1x128x128 : Shape := ⟨3, ![1, 128, 128]⟩
abbrev S128x16 : Shape := ⟨2, ![128, 16]⟩
abbrev S1x2048 : Shape := ⟨2, ![1, 2048]⟩
abbrev S8192 : Shape := ⟨1, ![8192]⟩
abbrev S8192x1 : Shape := ⟨2, ![8192, 1]⟩
abbrev S64x128x16x128 : Shape := ⟨4, ![64, 128, 16, 128]⟩
abbrev S16x64x128x128 : Shape := ⟨4, ![16, 64, 128, 128]⟩
abbrev S128x16x1 : Shape := ⟨3, ![128, 16, 1]⟩
abbrev S1x128x16x1 : Shape := ⟨4, ![1, 128, 16, 1]⟩
abbrev S1x4096 : Shape := ⟨2, ![1, 4096]⟩

abbrev nBuf : Space → Nat
  | .hbm => 231
  | .vmem => 0
  | .smem => 0
  | _ => 0

abbrev hbmTy0_0 (i : Nat) : BufTy := match i % 128 with
  | 0 => ⟨S8192x2048, .f32⟩
  | 1 => ⟨S8192x4096, .f32⟩
  | 2 => ⟨S4096, .f32⟩
  | 3 => ⟨S2048, .f32⟩
  | 4 => ⟨S2048, .f32⟩
  | 5 => ⟨S16x128x128, .f32⟩
  | 6 => ⟨S16x128, .f32⟩
  | 7 => ⟨S_, .f32⟩
  | 8 => ⟨S128x128, .f32⟩
  | 9 => ⟨S128x128, .i32⟩
  | 10 => ⟨S_, .i32⟩
  | 11 => ⟨S128x128, .i32⟩
  | 12 => ⟨S128x128, .i32⟩
  | 13 => ⟨S128x128, .i32⟩
  | 14 => ⟨S128x128, .i1⟩
  | 15 => ⟨S_, .f32⟩
  | 16 => ⟨S128x128, .f32⟩
  | 17 => ⟨S128x128, .f32⟩
  | 18 => ⟨S1x128x128, .f32⟩
  | 19 => ⟨S16x128x128, .f32⟩
  | 20 => ⟨S16x128x128, .f32⟩
  | 21 => ⟨S8192x2048, .f32⟩
  | 22 => ⟨S8192x2048, .f32⟩
  | 23 => ⟨S2048, .f32⟩
  | 24 => ⟨S2048, .f32⟩
  | 25 => ⟨S128x16, .f32⟩
  | 26 => ⟨S1x2048, .f32⟩
  | 27 => ⟨S8192x2048, .f32⟩
  | 28 => ⟨S8192x2048, .f32⟩
  | 29 => ⟨S8192x2048, .f32⟩
  | 30 => ⟨S8192x2048, .f32⟩
  | 31 => ⟨S8192x2048, .f32⟩
  | 32 => ⟨S_, .f32⟩
  | 33 => ⟨S8192x2048, .f32⟩
  | 34 => ⟨S8192x2048, .f32⟩
  | 35 => ⟨S_, .f32⟩
  | 36 => ⟨S8192x2048, .f32⟩
  | 37 => ⟨S8192x2048, .f32⟩
  | 38 => ⟨S8192x2048, .f32⟩
  | 39 => ⟨S_, .f32⟩
  | 40 => ⟨S8192x2048, .f32⟩
  | 41 => ⟨S8192x2048, .f32⟩
  | 42 => ⟨S8192x2048, .f32⟩
  | 43 => ⟨S_, .f32⟩
  | 44 => ⟨S8192x2048, .f32⟩
  | 45 => ⟨S8192x2048, .f32⟩
  | 46 => ⟨S_, .f32⟩
  | 47 => ⟨S8192x2048, .f32⟩
  | 48 => ⟨S8192x2048, .f32⟩
  | 49 => ⟨S8192x2048, .f32⟩
  | 50 => ⟨S_, .f32⟩
  | 51 => ⟨S8192x2048, .f32⟩
  | 52 => ⟨S8192x2048, .f32⟩
  | 53 => ⟨S_, .f32⟩
  | 54 => ⟨S8192x2048, .f32⟩
  | 55 => ⟨S8192x2048, .f32⟩
  | 56 => ⟨S8192x2048, .f32⟩
  | 57 => ⟨S1x2048, .f32⟩
  | 58 => ⟨S8192x2048, .f32⟩
  | 59 => ⟨S8192x2048, .f32⟩
  | 60 => ⟨S8192x2048, .f32⟩
  | 61 => ⟨S8192x2048, .f32⟩
  | 62 => ⟨S8192x2048, .f32⟩
  | 63 => ⟨S_, .f32⟩
  | 64 => ⟨S8192x2048, .f32⟩
  | 65 => ⟨S8192x2048, .f32⟩
  | 66 => ⟨S_, .f32⟩
  | 67 => ⟨S8192x2048, .f32⟩
  | 68 => ⟨S8192x2048, .f32⟩
  | 69 => ⟨S8192x2048, .f32⟩
  | 70 => ⟨S_, .f32⟩
  | 71 => ⟨S8192x2048, .f32⟩
  | 72 => ⟨S8192x2048, .f32⟩
  | 73 => ⟨S8192x2048, .f32⟩
  | 74 => ⟨S_, .f32⟩
  | 75 => ⟨S8192x2048, .f32⟩
  | 76 => ⟨S8192x2048, .f32⟩
  | 77 => ⟨S_, .f32⟩
  | 78 => ⟨S8192x2048, .f32⟩
  | 79 => ⟨S8192x2048, .f32⟩
  | 80 => ⟨S8192x2048, .f32⟩
  | 81 => ⟨S_, .f32⟩
  | 82 => ⟨S8192x2048, .f32⟩
  | 83 => ⟨S8192x2048, .f32⟩
  | 84 => ⟨S_, .f32⟩
  | 85 => ⟨S8192x2048, .f32⟩
  | 86 => ⟨S8192x2048, .f32⟩
  | 87 => ⟨S8192x2048, .f32⟩
  | 88 => ⟨S_, .f32⟩
  | 89 => ⟨S8192, .f32⟩
  | 90 => ⟨S8192x1, .f32⟩
  | 91 => ⟨S_, .f32⟩
  | 92 => ⟨S8192x1, .f32⟩
  | 93 => ⟨S8192x1, .f32⟩
  | 94 => ⟨S8192x2048, .f32⟩
  | 95 => ⟨S8192x2048, .f32⟩
  | 96 => ⟨S8192x2048, .f32⟩
  | 97 => ⟨S_, .f32⟩
  | 98 => ⟨S8192, .f32⟩
  | 99 => ⟨S8192x1, .f32⟩
  | 100 => ⟨S_, .f32⟩
  | 101 => ⟨S8192x1, .f32⟩
  | 102 => ⟨S8192x1, .f32⟩
  | 103 => ⟨S_, .f32⟩
  | 104 => ⟨S8192x1, .f32⟩
  | 105 => ⟨S8192x1, .f32⟩
  | 106 => ⟨S8192x1, .f32⟩
  | 107 => ⟨S8192x1, .f32⟩
  | 108 => ⟨S_, .f32⟩
  | 109 => ⟨S8192x1, .f32⟩
  | 110 => ⟨S8192x1, .f32⟩
  | 111 => ⟨S8192x2048, .f32⟩
  | 112 => ⟨S8192x2048, .f32⟩
  | 113 => ⟨S1x2048, .f32⟩
  | 114 => ⟨S8192x2048, .f32⟩
  | 115 => ⟨S8192x2048, .f32⟩
  | 116 => ⟨S1x2048, .f32⟩
  | 117 => ⟨S8192x2048, .f32⟩
  | 118 => ⟨S8192x2048, .f32⟩
  | 119 => ⟨S64x128x16x128, .f32⟩
  | 120 => ⟨S16x64x128x128, .f32⟩
  | 121 => ⟨S64x128x16x128, .f32⟩
  | 122 => ⟨S128x16x1, .f32⟩
  | 123 => ⟨S1x128x16x1, .f32⟩
  | 124 => ⟨S64x128x16x128, .f32⟩
  | 125 => ⟨S64x128x16x128, .f32⟩
  | 126 => ⟨S8192x2048, .f32⟩
  | 127 => ⟨S8192x2048, .f32⟩
  | _ => ⟨S8192x2048, .f32⟩

abbrev hbmTy0_1 (i : Nat) : BufTy := match i % 128 with
  | 0 => ⟨S8192x2048, .f32⟩
  | 1 => ⟨S8192x2048, .f32⟩
  | 2 => ⟨S64x128x16x128, .f32⟩
  | 3 => ⟨S_, .f32⟩
  | 4 => ⟨S128x16, .f32⟩
  | 5 => ⟨S1x128x16x1, .f32⟩
  | 6 => ⟨S_, .f32⟩
  | 7 => ⟨S128x16, .f32⟩
  | 8 => ⟨S128x16x1, .f32⟩
  | 9 => ⟨S_, .f32⟩
  | 10 => ⟨S128x16, .f32⟩
  | 11 => ⟨S16x64x128x128, .f32⟩
  | 12 => ⟨S16x128x128, .f32⟩
  | 13 => ⟨S16x64x128x128, .f32⟩
  | 14 => ⟨S64x128x16x128, .f32⟩
  | 15 => ⟨S8192x2048, .f32⟩
  | 16 => ⟨S_, .f32⟩
  | 17 => ⟨S2048, .f32⟩
  | 18 => ⟨S1x2048, .f32⟩
  | 19 => ⟨S_, .f32⟩
  | 20 => ⟨S2048, .f32⟩
  | 21 => ⟨S8192x2048, .f32⟩
  | 22 => ⟨S_, .f32⟩
  | 23 => ⟨S2048, .f32⟩
  | 24 => ⟨S1x2048, .f32⟩
  | 25 => ⟨S8192x2048, .f32⟩
  | 26 => ⟨S8192x2048, .f32⟩
  | 27 => ⟨S_, .f32⟩
  | 28 => ⟨S2048, .f32⟩
  | 29 => ⟨S8192x2048, .f32⟩
  | 30 => ⟨S_, .f32⟩
  | 31 => ⟨S8192, .f32⟩
  | 32 => ⟨S8192x1, .f32⟩
  | 33 => ⟨S8192x2048, .f32⟩
  | 34 => ⟨S8192x2048, .f32⟩
  | 35 => ⟨S8192x1, .f32⟩
  | 36 => ⟨S_, .f32⟩
  | 37 => ⟨S8192x1, .f32⟩
  | 38 => ⟨S8192x1, .f32⟩
  | 39 => ⟨S_, .f32⟩
  | 40 => ⟨S8192, .f32⟩
  | 41 => ⟨S8192x2048, .f32⟩
  | 42 => ⟨S8192x2048, .f32⟩
  | 43 => ⟨S8192x2048, .f32⟩
  | 44 => ⟨S8192x2048, .f32⟩
  | 45 => ⟨S8192x2048, .f32⟩
  | 46 => ⟨S8192x2048, .f32⟩
  | 47 => ⟨S_, .f32⟩
  | 48 => ⟨S8192, .f32⟩
  | 49 => ⟨S8192x1, .f32⟩
  | 50 => ⟨S_, .f32⟩
  | 51 => ⟨S8192x1, .f32⟩
  | 52 => ⟨S8192x1, .f32⟩
  | 53 => ⟨S_, .f32⟩
  | 54 => ⟨S8192, .f32⟩
  | 55 => ⟨S8192x2048, .f32⟩
  | 56 => ⟨S8192x2048, .f32⟩
  | 57 => ⟨S8192x2048, .f32⟩
  | 58 => ⟨S8192x2048, .f32⟩
  | 59 => ⟨S_, .f32⟩
  | 60 => ⟨S8192x2048, .f32⟩
  | 61 => ⟨S8192x2048, .f32⟩
  | 62 => ⟨S8192x2048, .f32⟩
  | 63 => ⟨S_, .f32⟩
  | 64 => ⟨S8192x2048, .f32⟩
  | 65 => ⟨S8192x2048, .f32⟩
  | 66 => ⟨S8192x2048, .f32⟩
  | 67 => ⟨S_, .f32⟩
  | 68 => ⟨S8192x2048, .f32⟩
  | 69 => ⟨S8192x2048, .f32⟩
  | 70 => ⟨S8192x2048, .f32⟩
  | 71 => ⟨S8192x2048, .f32⟩
  | 72 => ⟨S_, .f32⟩
  | 73 => ⟨S2048, .f32⟩
  | 74 => ⟨S1x2048, .f32⟩
  | 75 => ⟨S_, .f32⟩
  | 76 => ⟨S2048, .f32⟩
  | 77 => ⟨S8192x2048, .f32⟩
  | 78 => ⟨S8192x2048, .f32⟩
  | 79 => ⟨S_, .f32⟩
  | 80 => ⟨S8192x2048, .f32⟩
  | 81 => ⟨S8192x2048, .f32⟩
  | 82 => ⟨S8192x2048, .f32⟩
  | 83 => ⟨S_, .f32⟩
  | 84 => ⟨S8192x2048, .f32⟩
  | 85 => ⟨S8192x2048, .f32⟩
  | 86 => ⟨S8192x2048, .f32⟩
  | 87 => ⟨S_, .f32⟩
  | 88 => ⟨S8192x2048, .f32⟩
  | 89 => ⟨S8192x2048, .f32⟩
  | 90 => ⟨S8192x2048, .f32⟩
  | 91 => ⟨S8192x2048, .f32⟩
  | 92 => ⟨S_, .f32⟩
  | 93 => ⟨S2048, .f32⟩
  | 94 => ⟨S1x2048, .f32⟩
  | 95 => ⟨S_, .f32⟩
  | 96 => ⟨S2048, .f32⟩
  | 97 => ⟨S8192x4096, .f32⟩
  | 98 => ⟨S8192x4096, .bf16⟩
  | 99 => ⟨S4096, .f32⟩
  | 100 => ⟨S1x4096, .f32⟩
  | 101 => ⟨S1x2048, .f32⟩
  | 102 => ⟨S1x2048, .f32⟩
  | _ => ⟨S8192x2048, .f32⟩

abbrev hbmTy (i : Nat) : BufTy := match i / 128 with
  | 0 => hbmTy0_0 i
  | 1 => hbmTy0_1 i
  | _ => ⟨S8192x2048, .f32⟩

abbrev bufTy : (tb : Table) → Fin (tcTables nBuf tb) → BufTy
  | .hbm, ⟨i, _⟩ => hbmTy i
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_cst : Ref sig .tc := ⟨.hbm, 7, rfl⟩
abbrev main_v0 : Ref sig .tc := ⟨.hbm, 8, rfl⟩
abbrev main_call0_v0 : Ref sig .tc := ⟨.hbm, 9, rfl⟩
abbrev main_call0_c : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_cst : Ref sig .tc := ⟨.hbm, 15, rfl⟩
abbrev main_call0_v5 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_cst_0 : Ref sig .tc := ⟨.hbm, 32, rfl⟩
abbrev main_v16 : Ref sig .tc := ⟨.hbm, 33, rfl⟩
abbrev main_v17 : Ref sig .tc := ⟨.hbm, 34, rfl⟩
abbrev main_cst_1 : Ref sig .tc := ⟨.hbm, 35, rfl⟩
abbrev main_v18 : Ref sig .tc := ⟨.hbm, 36, rfl⟩
abbrev main_v19 : Ref sig .tc := ⟨.hbm, 37, rfl⟩
abbrev main_v20 : Ref sig .tc := ⟨.hbm, 38, rfl⟩
abbrev main_cst_2 : Ref sig .tc := ⟨.hbm, 39, rfl⟩
abbrev main_v21 : Ref sig .tc := ⟨.hbm, 40, rfl⟩
abbrev main_v22 : Ref sig .tc := ⟨.hbm, 41, rfl⟩
abbrev main_v23 : Ref sig .tc := ⟨.hbm, 42, rfl⟩
abbrev main_cst_3 : Ref sig .tc := ⟨.hbm, 43, rfl⟩
abbrev main_v24 : Ref sig .tc := ⟨.hbm, 44, rfl⟩
abbrev main_v25 : Ref sig .tc := ⟨.hbm, 45, rfl⟩
abbrev main_cst_4 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_cst_5 : Ref sig .tc := ⟨.hbm, 50, rfl⟩
abbrev main_v29 : Ref sig .tc := ⟨.hbm, 51, rfl⟩
abbrev main_v30 : Ref sig .tc := ⟨.hbm, 52, rfl⟩
abbrev main_cst_6 : Ref sig .tc := ⟨.hbm, 53, rfl⟩
abbrev main_v31 : Ref sig .tc := ⟨.hbm, 54, rfl⟩
abbrev main_v32 : Ref sig .tc := ⟨.hbm, 55, rfl⟩
abbrev main_v33 : Ref sig .tc := ⟨.hbm, 56, rfl⟩
abbrev main_v34 : Ref sig .tc := ⟨.hbm, 57, rfl⟩
abbrev main_v35 : Ref sig .tc := ⟨.hbm, 58, rfl⟩
abbrev main_v36 : Ref sig .tc := ⟨.hbm, 59, rfl⟩
abbrev main_v37 : Ref sig .tc := ⟨.hbm, 60, rfl⟩
abbrev main_v38 : Ref sig .tc := ⟨.hbm, 61, rfl⟩
abbrev main_v39 : Ref sig .tc := ⟨.hbm, 62, rfl⟩
abbrev main_cst_7 : Ref sig .tc := ⟨.hbm, 63, rfl⟩
abbrev main_v40 : Ref sig .tc := ⟨.hbm, 64, rfl⟩
abbrev main_v41 : Ref sig .tc := ⟨.hbm, 65, rfl⟩
abbrev main_cst_8 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_cst_9 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev main_cst_10 : Ref sig .tc := ⟨.hbm, 74, rfl⟩
abbrev main_v48 : Ref sig .tc := ⟨.hbm, 75, rfl⟩
abbrev main_v49 : Ref sig .tc := ⟨.hbm, 76, rfl⟩
abbrev main_cst_11 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_cst_12 : Ref sig .tc := ⟨.hbm, 81, rfl⟩
abbrev main_v53 : Ref sig .tc := ⟨.hbm, 82, rfl⟩
abbrev main_v54 : Ref sig .tc := ⟨.hbm, 83, rfl⟩
abbrev main_cst_13 : Ref sig .tc := ⟨.hbm, 84, rfl⟩
abbrev main_v55 : Ref sig .tc := ⟨.hbm, 85, rfl⟩
abbrev main_v56 : Ref sig .tc := ⟨.hbm, 86, rfl⟩
abbrev main_v57 : Ref sig .tc := ⟨.hbm, 87, rfl⟩
abbrev main_cst_14 : Ref sig .tc := ⟨.hbm, 88, rfl⟩
abbrev main_v58 : Ref sig .tc := ⟨.hbm, 89, rfl⟩
abbrev main_v59 : Ref sig .tc := ⟨.hbm, 90, rfl⟩
abbrev main_cst_15 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_cst_16 : Ref sig .tc := ⟨.hbm, 97, rfl⟩
abbrev main_v65 : Ref sig .tc := ⟨.hbm, 98, rfl⟩
abbrev main_v66 : Ref sig .tc := ⟨.hbm, 99, rfl⟩
abbrev main_cst_17 : Ref sig .tc := ⟨.hbm, 100, rfl⟩
abbrev main_v67 : Ref sig .tc := ⟨.hbm, 101, rfl⟩
abbrev main_v68 : Ref sig .tc := ⟨.hbm, 102, rfl⟩
abbrev main_cst_18 : Ref sig .tc := ⟨.hbm, 103, rfl⟩
abbrev main_v69 : Ref sig .tc := ⟨.hbm, 104, rfl⟩
abbrev main_v70 : Ref sig .tc := ⟨.hbm, 105, rfl⟩
abbrev main_v71 : Ref sig .tc := ⟨.hbm, 106, rfl⟩
abbrev main_v72 : Ref sig .tc := ⟨.hbm, 107, rfl⟩
abbrev main_cst_19 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_v82 : Ref sig .tc := ⟨.hbm, 118, rfl⟩
abbrev main_v83 : Ref sig .tc := ⟨.hbm, 119, rfl⟩
abbrev main_v84 : Ref sig .tc := ⟨.hbm, 120, rfl⟩
abbrev main_v85 : Ref sig .tc := ⟨.hbm, 121, rfl⟩
abbrev main_v86 : Ref sig .tc := ⟨.hbm, 122, rfl⟩
abbrev main_v87 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_cst_20 : Ref sig .tc := ⟨.hbm, 131, rfl⟩
abbrev main_v95 : Ref sig .tc := ⟨.hbm, 132, rfl⟩
abbrev main_v96 : Ref sig .tc := ⟨.hbm, 133, rfl⟩
abbrev main_cst_21 : Ref sig .tc := ⟨.hbm, 134, rfl⟩
abbrev main_v97 : Ref sig .tc := ⟨.hbm, 135, rfl⟩
abbrev main_v98 : Ref sig .tc := ⟨.hbm, 136, rfl⟩
abbrev main_cst_22 : Ref sig .tc := ⟨.hbm, 137, rfl⟩
abbrev main_v99 : Ref sig .tc := ⟨.hbm, 138, rfl⟩
abbrev main_v100 : Ref sig .tc := ⟨.hbm, 139, rfl⟩
abbrev main_v101 : Ref sig .tc := ⟨.hbm, 140, rfl⟩
abbrev main_v102 : Ref sig .tc := ⟨.hbm, 141, rfl⟩
abbrev main_v103 : Ref sig .tc := ⟨.hbm, 142, rfl⟩
abbrev main_v104 : Ref sig .tc := ⟨.hbm, 143, rfl⟩
abbrev main_cst_23 : Ref sig .tc := ⟨.hbm, 144, rfl⟩
abbrev main_v105 : Ref sig .tc := ⟨.hbm, 145, rfl⟩
abbrev main_v106 : Ref sig .tc := ⟨.hbm, 146, rfl⟩
abbrev main_cst_24 : Ref sig .tc := ⟨.hbm, 147, rfl⟩
abbrev main_v107 : Ref sig .tc := ⟨.hbm, 148, rfl⟩
abbrev main_v108 : Ref sig .tc := ⟨.hbm, 149, rfl⟩
abbrev main_cst_25 : Ref sig .tc := ⟨.hbm, 150, rfl⟩
abbrev main_v109 : Ref sig .tc := ⟨.hbm, 151, rfl⟩
abbrev main_v110 : Ref sig .tc := ⟨.hbm, 152, rfl⟩
abbrev main_v111 : Ref sig .tc := ⟨.hbm, 153, rfl⟩
abbrev main_v112 : Ref sig .tc := ⟨.hbm, 154, rfl⟩
abbrev main_cst_26 : Ref sig .tc := ⟨.hbm, 155, rfl⟩
abbrev main_v113 : Ref sig .tc := ⟨.hbm, 156, rfl⟩
abbrev main_v114 : Ref sig .tc := ⟨.hbm, 157, rfl⟩
abbrev main_cst_27 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_v118 : Ref sig .tc := ⟨.hbm, 162, rfl⟩
abbrev main_v119 : Ref sig .tc := ⟨.hbm, 163, rfl⟩
abbrev main_cst_28 : Ref sig .tc := ⟨.hbm, 164, rfl⟩
abbrev main_v120 : Ref sig .tc := ⟨.hbm, 165, rfl⟩
abbrev main_v121 : Ref sig .tc := ⟨.hbm, 166, rfl⟩
abbrev main_cst_29 : Ref sig .tc := ⟨.hbm, 167, rfl⟩
abbrev main_v122 : Ref sig .tc := ⟨.hbm, 168, rfl⟩
abbrev main_v123 : Ref sig .tc := ⟨.hbm, 169, rfl⟩
abbrev main_v124 : Ref sig .tc := ⟨.hbm, 170, rfl⟩
abbrev main_v125 : Ref sig .tc := ⟨.hbm, 171, rfl⟩
abbrev main_v126 : Ref sig .tc := ⟨.hbm, 172, rfl⟩
abbrev main_v127 : Ref sig .tc := ⟨.hbm, 173, rfl⟩
abbrev main_v128 : Ref sig .tc := ⟨.hbm, 174, rfl⟩
abbrev main_cst_30 : Ref sig .tc := ⟨.hbm, 175, rfl⟩
abbrev main_v129 : Ref sig .tc := ⟨.hbm, 176, rfl⟩
abbrev main_v130 : Ref sig .tc := ⟨.hbm, 177, rfl⟩
abbrev main_cst_31 : Ref sig .tc := ⟨.hbm, 178, rfl⟩
abbrev main_v131 : Ref sig .tc := ⟨.hbm, 179, rfl⟩
abbrev main_v132 : Ref sig .tc := ⟨.hbm, 180, rfl⟩
abbrev main_cst_32 : Ref sig .tc := ⟨.hbm, 181, rfl⟩
abbrev main_v133 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_cst_33 : Ref sig .tc := ⟨.hbm, 187, rfl⟩
abbrev main_v138 : Ref sig .tc := ⟨.hbm, 188, rfl⟩
abbrev main_v139 : Ref sig .tc := ⟨.hbm, 189, rfl⟩
abbrev main_v140 : Ref sig .tc := ⟨.hbm, 190, rfl⟩
abbrev main_cst_34 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_cst_35 : Ref sig .tc := ⟨.hbm, 195, rfl⟩
abbrev main_v144 : Ref sig .tc := ⟨.hbm, 196, rfl⟩
abbrev main_v145 : Ref sig .tc := ⟨.hbm, 197, rfl⟩
abbrev main_v146 : Ref sig .tc := ⟨.hbm, 198, rfl⟩
abbrev main_v147 : Ref sig .tc := ⟨.hbm, 199, rfl⟩
abbrev main_cst_36 : Ref sig .tc := ⟨.hbm, 200, rfl⟩
abbrev main_v148 : Ref sig .tc := ⟨.hbm, 201, rfl⟩
abbrev main_v149 : Ref sig .tc := ⟨.hbm, 202, rfl⟩
abbrev main_cst_37 : Ref sig .tc := ⟨.hbm, 203, rfl⟩
abbrev main_v150 : Ref sig .tc := ⟨.hbm, 204, rfl⟩
abbrev main_v151 : Ref sig .tc := ⟨.hbm, 205, rfl⟩
abbrev main_v152 : Ref sig .tc := ⟨.hbm, 206, rfl⟩
abbrev main_cst_38 : Ref sig .tc := ⟨.hbm, 207, rfl⟩
abbrev main_v153 : Ref sig .tc := ⟨.hbm, 208, rfl⟩
abbrev main_v154 : Ref sig .tc := ⟨.hbm, 209, rfl⟩
abbrev main_v155 : Ref sig .tc := ⟨.hbm, 210, rfl⟩
abbrev main_cst_39 : Ref sig .tc := ⟨.hbm, 211, rfl⟩
abbrev main_v156 : Ref sig .tc := ⟨.hbm, 212, rfl⟩
abbrev main_v157 : Ref sig .tc := ⟨.hbm, 213, rfl⟩
abbrev main_v158 : Ref sig .tc := ⟨.hbm, 214, rfl⟩
abbrev main_cst_40 : Ref sig .tc := ⟨.hbm, 215, rfl⟩
abbrev main_v159 : Ref sig .tc := ⟨.hbm, 216, rfl⟩
abbrev main_v160 : Ref sig .tc := ⟨.hbm, 217, rfl⟩
abbrev main_v161 : Ref sig .tc := ⟨.hbm, 218, rfl⟩
abbrev main_v162 : Ref sig .tc := ⟨.hbm, 219, rfl⟩
abbrev main_cst_41 : Ref sig .tc := ⟨.hbm, 220, rfl⟩
abbrev main_v163 : Ref sig .tc := ⟨.hbm, 221, rfl⟩
abbrev main_v164 : Ref sig .tc := ⟨.hbm, 222, rfl⟩
abbrev main_cst_42 : Ref sig .tc := ⟨.hbm, 223, rfl⟩
abbrev main_v165 : Ref sig .tc := ⟨.hbm, 224, rfl⟩
abbrev main_v166 : Ref sig .tc := ⟨.hbm, 225, rfl⟩
abbrev main_v167 : Ref sig .tc := ⟨.hbm, 226, rfl⟩
abbrev main_v168 : Ref sig .tc := ⟨.hbm, 227, rfl⟩
abbrev main_v169 : Ref sig .tc := ⟨.hbm, 228, rfl⟩
abbrev main_v170 : Ref sig .tc := ⟨.hbm, 229, rfl⟩
abbrev main_v171 : Ref sig .tc := ⟨.hbm, 230, rfl⟩

abbrev nD : Nat := 1
abbrev τ : Topo := Topo.v7x

variable {F : FTy → Type} [FloatOps F]
-- ==== Kernel3.lean ====
abbrev S8192x5632 : Shape := ⟨2, ![8192, 5632]⟩
abbrev S1x1024x5632 : Shape := ⟨3, ![1, 1024, 5632]⟩
abbrev S8192x1024 : Shape := ⟨2, ![8192, 1024]⟩
abbrev S1024x2816 : Shape := ⟨2, ![1024, 2816]⟩
abbrev S1x512x2816 : Shape := ⟨3, ![1, 512, 2816]⟩
abbrev S1024x512 : Shape := ⟨2, ![1024, 512]⟩
abbrev S512x2816 : Shape := ⟨2, ![512, 2816]⟩

abbrev nBuf : Space → Nat
  | .hbm => 5
  | .vmem => 7
  | .smem => 0
  | _ => 0

abbrev bufTy : (tb : Table) → Fin (tcTables nBuf tb) → BufTy
  | .hbm, ⟨0, _⟩ => ⟨S8192x5632, .f32⟩
  | .hbm, ⟨1, _⟩ => ⟨S1x1024x5632, .f32⟩
  | .hbm, ⟨2, _⟩ => ⟨S8192x5632, .bf16⟩
  | .hbm, ⟨3, _⟩ => ⟨S1x1024x5632, .bf16⟩
  | .hbm, ⟨4, _⟩ => ⟨S8192x1024, .f32⟩
  | .local _ .vmem, ⟨0, _⟩ => ⟨S1024x2816, .bf16⟩
  | .local _ .vmem, ⟨1, _⟩ => ⟨S1024x2816, .bf16⟩
  | .local _ .vmem, ⟨2, _⟩ => ⟨S1x512x2816, .bf16⟩
  | .local _ .vmem, ⟨3, _⟩ => ⟨S1x512x2816, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S8192x5632, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference3Ideal.lean ====
abbrev S8192x5632 : Shape := ⟨2, ![8192, 5632]⟩
abbrev S1x1024x5632 : Shape := ⟨3, ![1, 1024, 5632]⟩
abbrev S_ : Shape := ⟨0, ![]⟩
abbrev S8192x1024 : Shape := ⟨2, ![8192, 1024]⟩
abbrev S1024x5632 : Shape := ⟨2, ![1024, 5632]⟩

abbrev nBuf : Space → Nat
  | .hbm => 7
  | .vmem => 0
  | .smem => 0
  | _ => 0

abbrev bufTy : (tb : Table) → Fin (tcTables nBuf tb) → BufTy
  | .hbm, ⟨0, _⟩ => ⟨S8192x5632, .f32⟩
  | .hbm, ⟨1, _⟩ => ⟨S1x1024x5632, .f32⟩
  | .hbm, ⟨2, _⟩ => ⟨S_, .f32⟩
  | .hbm, ⟨3, _⟩ => ⟨S8192x1024, .f32⟩
  | .hbm, ⟨4, _⟩ => ⟨S1024x5632, .f32⟩
  | .hbm, ⟨5, _⟩ => ⟨S8192x5632, .f32⟩
  | .hbm, ⟨6, _⟩ => ⟨S8192x1024, .f32⟩
  | _, _ => ⟨S8192x5632, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel4.lean ====
abbrev S8192x1024 : Shape := ⟨2, ![8192, 1024]⟩
abbrev S8192x5632 : Shape := ⟨2, ![8192, 5632]⟩
abbrev S1024x5632 : Shape := ⟨2, ![1024, 5632]⟩
abbrev S2048x1024 : Shape := ⟨2, ![2048, 1024]⟩
abbrev S2048x512 : Shape := ⟨2, ![2048, 512]⟩
abbrev S1024x512 : Shape := ⟨2, ![1024, 512]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x5632, .f32⟩
  | .hbm, ⟨2, _⟩ => ⟨S8192x1024, .bf16⟩
  | .hbm, ⟨3, _⟩ => ⟨S8192x5632, .bf16⟩
  | .hbm, ⟨4, _⟩ => ⟨S1024x5632, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 11, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference4Ideal.lean ====
abbrev S8192x1024 : Shape := ⟨2, ![8192, 1024]⟩
abbrev S8192x5632 : Shape := ⟨2, ![8192, 5632]⟩
abbrev S_ : Shape := ⟨0, ![]⟩
abbrev S1024x5632 : Shape := ⟨2, ![1024, 5632]⟩
abbrev S5632x1024 : Shape := ⟨2, ![5632, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x5632, .f32⟩
  | .hbm, ⟨2, _⟩ => ⟨S_, .f32⟩
  | .hbm, ⟨3, _⟩ => ⟨S1024x5632, .f32⟩
  | .hbm, ⟨4, _⟩ => ⟨S8192x5632, .f32⟩
  | .hbm, ⟨5, _⟩ => ⟨S5632x1024, .f32⟩
  | .hbm, ⟨6, _⟩ => ⟨S1024x5632, .f32⟩
  | .hbm, ⟨7, _⟩ => ⟨S1024x5632, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel5.lean ====
abbrev S8192x2816 : Shape := ⟨2, ![8192, 2816]⟩
abbrev S8192x1024 : Shape := ⟨2, ![8192, 1024]⟩
abbrev S2816x1024 : Shape := ⟨2, ![2816, 1024]⟩
abbrev S2048x1408 : Shape := ⟨2, ![2048, 1408]⟩
abbrev S2048x512 : Shape := ⟨2, ![2048, 512]⟩
abbrev S1408x512 : Shape := ⟨2, ![1408, 512]⟩

abbrev nBuf : Space → Nat
  | .hbm => 5
  | .vmem => 7
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S8192x2816, .bf16⟩
  | .hbm, ⟨3, _⟩ => ⟨S8192x1024, .bf16⟩
  | .hbm, ⟨4, _⟩ => ⟨S2816x1024, .bf16⟩
  | .local _ .vmem, ⟨0, _⟩ => ⟨S2048x1408, .bf16⟩
  | .local _ .vmem, ⟨1, _⟩ => ⟨S2048x1408, .bf16⟩
  | .local _ .vmem, ⟨2, _⟩ => ⟨S2048x512, .bf16⟩
  | .local _ .vmem, ⟨3, _⟩ => ⟨S2048x512, .bf16⟩
  | .local _ .vmem, ⟨4, _⟩ => ⟨S1408x512, .bf16⟩
  | .local _ .vmem, ⟨5, _⟩ => ⟨S1408x512, .bf16⟩
  | .local _ .vmem, ⟨6, _⟩ => ⟨S1408x512, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1408 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1408x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference5Ideal.lean ====
abbrev S8192x2816 : Shape := ⟨2, ![8192, 2816]⟩
abbrev S8192x1024 : Shape := ⟨2, ![8192, 1024]⟩
abbrev S_ : Shape := ⟨0, ![]⟩
abbrev S2816x1024 : Shape := ⟨2, ![2816, 1024]⟩
abbrev S1024x2816 : Shape := ⟨2, ![1024, 2816]⟩

abbrev nBuf : Space → Nat
  | .hbm => 8
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S8192x1024, .f32⟩
  | .hbm, ⟨2, _⟩ => ⟨S_, .f32⟩
  | .hbm, ⟨3, _⟩ => ⟨S2816x1024, .f32⟩
  | .hbm, ⟨4, _⟩ => ⟨S8192x1024, .f32⟩
  | .hbm, ⟨5, _⟩ => ⟨S1024x2816, .f32⟩
  | .hbm, ⟨6, _⟩ => ⟨S2816x1024, .f32⟩
  | .hbm, ⟨7, _⟩ => ⟨S2816x1024, .bf16⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel6.lean ====
abbrev S8192x1024 : Shape := ⟨2, ![8192, 1024]⟩
abbrev S1x1024x5632 : Shape := ⟨3, ![1, 1024, 5632]⟩
abbrev S8192x5632 : Shape := ⟨2, ![8192, 5632]⟩
abbrev S8192x2816 : Shape := ⟨2, ![8192, 2816]⟩
abbrev S512x1024 : Shape := ⟨2, ![512, 1024]⟩
abbrev S1x1024x2816 : Shape := ⟨3, ![1, 1024, 2816]⟩
abbrev S512x2816 : Shape := ⟨2, ![512, 2816]⟩
abbrev S512x1408 : Shape := ⟨2, ![512, 1408]⟩
abbrev S1024x2816 : Shape := ⟨2, ![1024, 2816]⟩

abbrev nBuf : Space → Nat
  | .hbm => 6
  | .vmem => 8
  | .smem => 0
  | _ => 0

abbrev bufTy : (tb : Table) → Fin (tcTables nBuf tb) → BufTy
  | .hbm, ⟨0, _⟩ => ⟨S8192x1024, .f32⟩
  | .hbm, ⟨1, _⟩ => ⟨S1x1024x5632, .f32⟩
  | .hbm, ⟨2, _⟩ => ⟨S8192x1024, .bf16⟩
  | .hbm, ⟨3, _⟩ => ⟨S1x1024x5632, .bf16⟩
  | .hbm, ⟨4, _⟩ => ⟨S8192x5632, .bf16⟩
  | .hbm, ⟨5, _⟩ => ⟨S8192x2816, .bf16⟩
  | .local _ .vmem, ⟨0, _⟩ => ⟨S512x1024, .bf16⟩
  | .local _ .vmem, ⟨1, _⟩ => ⟨S512x1024, .bf16⟩
  | .local _ .vmem, ⟨2, _⟩ => ⟨S1x1024x2816, .bf16⟩
  | .local _ .vmem, ⟨3, _⟩ => ⟨S1x1024x2816, .bf16⟩
  | .local _ .vmem, ⟨4, _⟩ => ⟨S512x2816, .bf16⟩
  | .local _ .vmem, ⟨5, _⟩ => ⟨S512x2816, .bf16⟩
  | .local _ .vmem, ⟨6, _⟩ => ⟨S512x1408, .bf16⟩
  | .local _ .vmem, ⟨7, _⟩ => ⟨S512x1408, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2_0 : Ref sig .tc := ⟨.hbm, 4, rfl⟩
abbrev main_v2_1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![16, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1x1024x2816 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x2816 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x1408 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference6Ideal.lean ====
abbrev S8192x1024 : Shape := ⟨2, ![8192, 1024]⟩
abbrev S1x1024x5632 : Shape := ⟨3, ![1, 1024, 5632]⟩
abbrev S1024x5632 : Shape := ⟨2, ![1024, 5632]⟩
abbrev S8192x5632 : Shape := ⟨2, ![8192, 5632]⟩
abbrev S8192x1408 : Shape := ⟨2, ![8192, 1408]⟩
abbrev S8192x2816 : Shape := ⟨2, ![8192, 2816]⟩
abbrev S_ : Shape := ⟨0, ![]⟩

abbrev nBuf : Space → Nat
  | .hbm => 22
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024x5632, .f32⟩
  | .hbm, ⟨2, _⟩ => ⟨S1024x5632, .f32⟩
  | .hbm, ⟨3, _⟩ => ⟨S8192x5632, .f32⟩
  | .hbm, ⟨4, _⟩ => ⟨S8192x1408, .f32⟩
  | .hbm, ⟨5, _⟩ => ⟨S8192x1408, .f32⟩
  | .hbm, ⟨6, _⟩ => ⟨S8192x2816, .f32⟩
  | .hbm, ⟨7, _⟩ => ⟨S8192x1408, .f32⟩
  | .hbm, ⟨8, _⟩ => ⟨S8192x1408, .f32⟩
  | .hbm, ⟨9, _⟩ => ⟨S8192x2816, .f32⟩
  | .hbm, ⟨10, _⟩ => ⟨S8192x5632, .bf16⟩
  | .hbm, ⟨11, _⟩ => ⟨S8192x2816, .f32⟩
  | .hbm, ⟨12, _⟩ => ⟨S8192x2816, .f32⟩
  | .hbm, ⟨13, _⟩ => ⟨S_, .f32⟩
  | .hbm, ⟨14, _⟩ => ⟨S8192x2816, .f32⟩
  | .hbm, ⟨15, _⟩ => ⟨S8192x2816, .f32⟩
  | .hbm, ⟨16, _⟩ => ⟨S_, .f32⟩
  | .hbm, ⟨17, _⟩ => ⟨S8192x2816, .f32⟩
  | .hbm, ⟨18, _⟩ => ⟨S8192x2816, .f32⟩
  | .hbm, ⟨19, _⟩ => ⟨S8192x2816, .f32⟩
  | .hbm, ⟨20, _⟩ => ⟨S8192x2816, .f32⟩
  | .hbm, ⟨21, _⟩ => ⟨S8192x2816, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_call0_v0 : Ref sig .tc := ⟨.hbm, 11, rfl⟩
abbrev main_call0_v1 : Ref sig .tc := ⟨.hbm, 12, rfl⟩
abbrev main_call0_cst : Ref sig .tc := ⟨.hbm, 13, rfl⟩
abbrev main_call0_v2 : Ref sig .tc := ⟨.hbm, 14, rfl⟩
abbrev main_call0_v3 : Ref sig .tc := ⟨.hbm, 15, rfl⟩
abbrev main_call0_cst_0 : Ref sig .tc := ⟨.hbm, 16, rfl⟩
abbrev main_call0_v4 : Ref sig .tc := ⟨.hbm, 17, rfl⟩
abbrev main_call0_v5 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩

abbrev nD : Nat := 1
abbrev τ : Topo := Topo.v7x

variable {F : FTy → Type} [FloatOps F]
-- ==== Kernel7.lean ====
abbrev S8192x2816 : Shape := ⟨2, ![8192, 2816]⟩
abbrev S1x2816x1024 : Shape := ⟨3, ![1, 2816, 1024]⟩
abbrev S8192x1024 : Shape := ⟨2, ![8192, 1024]⟩
abbrev S1024x2816 : Shape := ⟨2, ![1024, 2816]⟩
abbrev S1x2816x512 : Shape := ⟨3, ![1, 2816, 512]⟩
abbrev S1024x512 : Shape := ⟨2, ![1024, 512]⟩
abbrev S2816x512 : Shape := ⟨2, ![2816, 512]⟩

abbrev nBuf : Space → Nat
  | .hbm => 5
  | .vmem => 6
  | .smem => 0
  | _ => 0

abbrev bufTy : (tb : Table) → Fin (tcTables nBuf tb) → BufTy
  | .hbm, ⟨0, _⟩ => ⟨S8192x2816, .f32⟩
  | .hbm, ⟨1, _⟩ => ⟨S1x2816x1024, .f32⟩
  | .hbm, ⟨2, _⟩ => ⟨S8192x2816, .bf16⟩
  | .hbm, ⟨3, _⟩ => ⟨S1x2816x1024, .bf16⟩
  | .hbm, ⟨4, _⟩ => ⟨S8192x1024, .f32⟩
  | .local _ .vmem, ⟨0, _⟩ => ⟨S1024x2816, .bf16⟩
  | .local _ .vmem, ⟨1, _⟩ => ⟨S1024x2816, .bf16⟩
  | .local _ .vmem, ⟨2, _⟩ => ⟨S1x2816x512, .bf16⟩
  | .local _ .vmem, ⟨3, _⟩ => ⟨S1x2816x512, .bf16⟩
  | .local _ .vmem, ⟨4, _⟩ => ⟨S1024x512, .f32⟩
  | .local _ .vmem, ⟨5, _⟩ => ⟨S1024x512, .f32⟩
  | _, _ => ⟨S8192x2816, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2816 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2816x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference7Ideal.lean ====
abbrev S8192x2816 : Shape := ⟨2, ![8192, 2816]⟩
abbrev S1x2816x1024 : Shape := ⟨3, ![1, 2816, 1024]⟩
abbrev S2816x1024 : Shape := ⟨2, ![2816, 1024]⟩
abbrev S8192x1024 : Shape := ⟨2, ![8192, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x2816, .f32⟩
  | .hbm, ⟨1, _⟩ => ⟨S1x2816x1024, .f32⟩
  | .hbm, ⟨2, _⟩ => ⟨S2816x1024, .f32⟩
  | .hbm, ⟨3, _⟩ => ⟨S8192x1024, .f32⟩
  | _, _ => ⟨S8192x2816, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel8.lean ====
abbrev S8192x1024 : Shape := ⟨2, ![8192, 1024]⟩
abbrev S1x1024x4096 : Shape := ⟨3, ![1, 1024, 4096]⟩
abbrev S8192x4096 : Shape := ⟨2, ![8192, 4096]⟩
abbrev S1024x1024 : Shape := ⟨2, ![1024, 1024]⟩
abbrev S1x1024x1024 : Shape := ⟨3, ![1, 1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1x1024x4096, .f32⟩
  | .hbm, ⟨2, _⟩ => ⟨S8192x1024, .bf16⟩
  | .hbm, ⟨3, _⟩ => ⟨S1x1024x4096, .bf16⟩
  | .hbm, ⟨4, _⟩ => ⟨S8192x4096, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .bf16⟩
  | .local _ .vmem, ⟨5, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 4, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference8Ideal.lean ====
abbrev S8192x1024 : Shape := ⟨2, ![8192, 1024]⟩
abbrev S1x1024x4096 : Shape := ⟨3, ![1, 1024, 4096]⟩
abbrev S1024x4096 : Shape := ⟨2, ![1024, 4096]⟩
abbrev S8192x4096 : Shape := ⟨2, ![8192, 4096]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024x4096, .f32⟩
  | .hbm, ⟨2, _⟩ => ⟨S1024x4096, .f32⟩
  | .hbm, ⟨3, _⟩ => ⟨S8192x4096, .f32⟩
  | .hbm, ⟨4, _⟩ => ⟨S8192x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel9.lean ====
abbrev S8192x2048 : Shape := ⟨2, ![8192, 2048]⟩
abbrev S1x2048x1024 : Shape := ⟨3, ![1, 2048, 1024]⟩
abbrev S8192x1024 : Shape := ⟨2, ![8192, 1024]⟩
abbrev S1024x2048 : Shape := ⟨2, ![1024, 2048]⟩
abbrev S1x2048x512 : Shape := ⟨3, ![1, 2048, 512]⟩
abbrev S1024x512 : Shape := ⟨2, ![1024, 512]⟩
abbrev S2048x512 : Shape := ⟨2, ![2048, 512]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S1x2048x1024, .f32⟩
  | .hbm, ⟨2, _⟩ => ⟨S8192x2048, .bf16⟩
  | .hbm, ⟨3, _⟩ => ⟨S1x2048x1024, .bf16⟩
  | .hbm, ⟨4, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S1x2048x512, .bf16⟩
  | .local _ .vmem, ⟨3, _⟩ => ⟨S1x2048x512, .bf16⟩
  | .local _ .vmem, ⟨4, _⟩ => ⟨S1024x512, .f32⟩
  | .local _ .vmem, ⟨5, _⟩ => ⟨S1024x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference9Ideal.lean ====
abbrev S8192x2048 : Shape := ⟨2, ![8192, 2048]⟩
abbrev S1x2048x1024 : Shape := ⟨3, ![1, 2048, 1024]⟩
abbrev S2048x1024 : Shape := ⟨2, ![2048, 1024]⟩
abbrev S8192x1024 : Shape := ⟨2, ![8192, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x2048x1024, .f32⟩
  | .hbm, ⟨2, _⟩ => ⟨S2048x1024, .f32⟩
  | .hbm, ⟨3, _⟩ => ⟨S8192x1024, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel10.lean ====
abbrev S8192x2048 : Shape := ⟨2, ![8192, 2048]⟩
abbrev S8192x1024 : Shape := ⟨2, ![8192, 1024]⟩
abbrev S2048x1024 : Shape := ⟨2, ![2048, 1024]⟩
abbrev S2048x512 : Shape := ⟨2, ![2048, 512]⟩
abbrev S1024x512 : Shape := ⟨2, ![1024, 512]⟩

abbrev nBuf : Space → Nat
  | .hbm => 5
  | .vmem => 7
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S8192x2048, .bf16⟩
  | .hbm, ⟨3, _⟩ => ⟨S8192x1024, .bf16⟩
  | .hbm, ⟨4, _⟩ => ⟨S2048x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference10Ideal.lean ====
abbrev S8192x2048 : Shape := ⟨2, ![8192, 2048]⟩
abbrev S8192x1024 : Shape := ⟨2, ![8192, 1024]⟩
abbrev S_ : Shape := ⟨0, ![]⟩
abbrev S2048x1024 : Shape := ⟨2, ![2048, 1024]⟩
abbrev S1024x2048 : Shape := ⟨2, ![1024, 2048]⟩

abbrev nBuf : Space → Nat
  | .hbm => 8
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x1024, .f32⟩
  | .hbm, ⟨2, _⟩ => ⟨S_, .f32⟩
  | .hbm, ⟨3, _⟩ => ⟨S2048x1024, .f32⟩
  | .hbm, ⟨4, _⟩ => ⟨S8192x1024, .f32⟩
  | .hbm, ⟨5, _⟩ => ⟨S1024x2048, .f32⟩
  | .hbm, ⟨6, _⟩ => ⟨S2048x1024, .f32⟩
  | .hbm, ⟨7, _⟩ => ⟨S2048x1024, .bf16⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel11.lean ====
abbrev S8192x1024 : Shape := ⟨2, ![8192, 1024]⟩
abbrev S1x2048x1024 : Shape := ⟨3, ![1, 2048, 1024]⟩
abbrev S8192x2048 : Shape := ⟨2, ![8192, 2048]⟩
abbrev S1024x1024 : Shape := ⟨2, ![1024, 1024]⟩
abbrev S1x1024x1024 : Shape := ⟨3, ![1, 1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1x2048x1024, .f32⟩
  | .hbm, ⟨2, _⟩ => ⟨S8192x1024, .bf16⟩
  | .hbm, ⟨3, _⟩ => ⟨S1x2048x1024, .bf16⟩
  | .hbm, ⟨4, _⟩ => ⟨S8192x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .bf16⟩
  | .local _ .vmem, ⟨5, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference11Ideal.lean ====
abbrev S8192x1024 : Shape := ⟨2, ![8192, 1024]⟩
abbrev S1x2048x1024 : Shape := ⟨3, ![1, 2048, 1024]⟩
abbrev S_ : Shape := ⟨0, ![]⟩
abbrev S8192x2048 : Shape := ⟨2, ![8192, 2048]⟩
abbrev S2048x1024 : Shape := ⟨2, ![2048, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x2048x1024, .f32⟩
  | .hbm, ⟨2, _⟩ => ⟨S_, .f32⟩
  | .hbm, ⟨3, _⟩ => ⟨S8192x2048, .f32⟩
  | .hbm, ⟨4, _⟩ => ⟨S2048x1024, .f32⟩
  | .hbm, ⟨5, _⟩ => ⟨S8192x1024, .f32⟩
  | .hbm, ⟨6, _⟩ => ⟨S8192x2048, .f32⟩
  | .hbm, ⟨7, _⟩ => ⟨S8192x2048, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel12.lean ====
abbrev S8192x1024 : Shape := ⟨2, ![8192, 1024]⟩
abbrev S8192x4096 : Shape := ⟨2, ![8192, 4096]⟩
abbrev S1024x4096 : Shape := ⟨2, ![1024, 4096]⟩
abbrev S2048x1024 : Shape := ⟨2, ![2048, 1024]⟩
abbrev S2048x512 : Shape := ⟨2, ![2048, 512]⟩
abbrev S1024x512 : Shape := ⟨2, ![1024, 512]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S8192x1024, .bf16⟩
  | .hbm, ⟨3, _⟩ => ⟨S8192x4096, .bf16⟩
  | .hbm, ⟨4, _⟩ => ⟨S1024x4096, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 8, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference12Ideal.lean ====
abbrev S8192x1024 : Shape := ⟨2, ![8192, 1024]⟩
abbrev S8192x4096 : Shape := ⟨2, ![8192, 4096]⟩
abbrev S_ : Shape := ⟨0, ![]⟩
abbrev S1024x4096 : Shape := ⟨2, ![1024, 4096]⟩
abbrev S4096x1024 : Shape := ⟨2, ![4096, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x4096, .f32⟩
  | .hbm, ⟨2, _⟩ => ⟨S_, .f32⟩
  | .hbm, ⟨3, _⟩ => ⟨S1024x4096, .f32⟩
  | .hbm, ⟨4, _⟩ => ⟨S8192x4096, .f32⟩
  | .hbm, ⟨5, _⟩ => ⟨S4096x1024, .f32⟩
  | .hbm, ⟨6, _⟩ => ⟨S1024x4096, .f32⟩
  | .hbm, ⟨7, _⟩ => ⟨S1024x4096, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel13.lean ====
abbrev S8192x4096 : Shape := ⟨2, ![8192, 4096]⟩
abbrev S1x1024x4096 : Shape := ⟨3, ![1, 1024, 4096]⟩
abbrev S8192x1024 : Shape := ⟨2, ![8192, 1024]⟩
abbrev S1024x2048 : Shape := ⟨2, ![1024, 2048]⟩
abbrev S1x512x2048 : Shape := ⟨3, ![1, 512, 2048]⟩
abbrev S1024x512 : Shape := ⟨2, ![1024, 512]⟩
abbrev S512x2048 : Shape := ⟨2, ![512, 2048]⟩

abbrev nBuf : Space → Nat
  | .hbm => 5
  | .vmem => 7
  | .smem => 0
  | _ => 0

abbrev bufTy : (tb : Table) → Fin (tcTables nBuf tb) → BufTy
  | .hbm, ⟨0, _⟩ => ⟨S8192x4096, .f32⟩
  | .hbm, ⟨1, _⟩ => ⟨S1x1024x4096, .f32⟩
  | .hbm, ⟨2, _⟩ => ⟨S8192x4096, .bf16⟩
  | .hbm, ⟨3, _⟩ => ⟨S1x1024x4096, .bf16⟩
  | .hbm, ⟨4, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S1x512x2048, .bf16⟩
  | .local _ .vmem, ⟨3, _⟩ => ⟨S1x512x2048, .bf16⟩
  | .local _ .vmem, ⟨4, _⟩ => ⟨S1024x512, .f32⟩
  | .local _ .vmem, ⟨5, _⟩ => ⟨S1024x512, .f32⟩
  | .local _ .vmem, ⟨6, _⟩ => ⟨S1024x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 2], ![false, false, false]⟩

def k0_cond3 (i : grid0.Coords) : BitVec 1 :=
  let arg2 : BitVec 32 := BitVec.ofNat 32 (i 2).val
  let c1_i32 : BitVec 32 := 1#32
  let v11 : BitVec 1 := Scalar.cmpi .eq arg2 c1_i32
  let v12 : BitVec 32 := Scalar.extui v11
  let c0_i32_7 : BitVec 32 := 0#32
  let v13 : BitVec 1 := Scalar.cmpi .ne v12 c0_i32_7
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference13Ideal.lean ====
abbrev S8192x4096 : Shape := ⟨2, ![8192, 4096]⟩
abbrev S1x1024x4096 : Shape := ⟨3, ![1, 1024, 4096]⟩
abbrev S_ : Shape := ⟨0, ![]⟩
abbrev S8192x1024 : Shape := ⟨2, ![8192, 1024]⟩
abbrev S1024x4096 : Shape := ⟨2, ![1024, 4096]⟩

abbrev nBuf : Space → Nat
  | .hbm => 7
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S1x1024x4096, .f32⟩
  | .hbm, ⟨2, _⟩ => ⟨S_, .f32⟩
  | .hbm, ⟨3, _⟩ => ⟨S8192x1024, .f32⟩
  | .hbm, ⟨4, _⟩ => ⟨S1024x4096, .f32⟩
  | .hbm, ⟨5, _⟩ => ⟨S8192x4096, .f32⟩
  | .hbm, ⟨6, _⟩ => ⟨S8192x1024, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel14.lean ====
abbrev S8192x1024 : Shape := ⟨2, ![8192, 1024]⟩
abbrev S1x1024x2048 : Shape := ⟨3, ![1, 1024, 2048]⟩
abbrev S8192x2048 : Shape := ⟨2, ![8192, 2048]⟩
abbrev S1024x1024 : Shape := ⟨2, ![1024, 1024]⟩
abbrev S1x1024x1024 : Shape := ⟨3, ![1, 1024, 1024]⟩

abbrev nBuf : Space → Nat
  | .hbm => 5
  | .vmem => 6
  | .smem => 0
  | _ => 0

abbrev bufTy : (tb : Table) → Fin (tcTables nBuf tb) → BufTy
  | .hbm, ⟨0, _⟩ => ⟨S8192x1024, .f32⟩
  | .hbm, ⟨1, _⟩ => ⟨S1x1024x2048, .f32⟩
  | .hbm, ⟨2, _⟩ => ⟨S8192x1024, .bf16⟩
  | .hbm, ⟨3, _⟩ => ⟨S1x1024x2048, .bf16⟩
  | .hbm, ⟨4, _⟩ => ⟨S8192x2048, .bf16⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1x1024x1024, .bf16⟩
  | .local _ .vmem, ⟨4, _⟩ => ⟨S1024x1024, .bf16⟩
  | .local _ .vmem, ⟨5, _⟩ => ⟨S1024x1024, .bf16⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x1024x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference14Ideal.lean ====
abbrev S8192x1024 : Shape := ⟨2, ![8192, 1024]⟩
abbrev S1x1024x2048 : Shape := ⟨3, ![1, 1024, 2048]⟩
abbrev S1024x2048 : Shape := ⟨2, ![1024, 2048]⟩
abbrev S8192x2048 : Shape := ⟨2, ![8192, 2048]⟩

abbrev nBuf : Space → Nat
  | .hbm => 5
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024x2048, .f32⟩
  | .hbm, ⟨2, _⟩ => ⟨S1024x2048, .f32⟩
  | .hbm, ⟨3, _⟩ => ⟨S8192x2048, .f32⟩
  | .hbm, ⟨4, _⟩ => ⟨S8192x2048, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel15.lean ====
abbrev S8192x1024 : Shape := ⟨2, ![8192, 1024]⟩
abbrev S1x1024x1024 : Shape := ⟨3, ![1, 1024, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1x1024x1024, .f32⟩
  | .hbm, ⟨2, _⟩ => ⟨S8192x1024, .bf16⟩
  | .hbm, ⟨3, _⟩ => ⟨S1x1024x1024, .bf16⟩
  | .hbm, ⟨4, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1024x1024, .f32⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference15Ideal.lean ====
abbrev S8192x1024 : Shape := ⟨2, ![8192, 1024]⟩
abbrev S1x1024x1024 : Shape := ⟨3, ![1, 1024, 1024]⟩
abbrev S1024x1024 : Shape := ⟨2, ![1024, 1024]⟩

abbrev nBuf : Space → Nat
  | .hbm => 4
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024x1024, .f32⟩
  | .hbm, ⟨2, _⟩ => ⟨S1024x1024, .f32⟩
  | .hbm, ⟨3, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel16.lean ====
abbrev S8192x1024 : Shape := ⟨2, ![8192, 1024]⟩
abbrev S1024x1024 : Shape := ⟨2, ![1024, 1024]⟩
abbrev S2048x1024 : Shape := ⟨2, ![2048, 1024]⟩
abbrev S2048x512 : Shape := ⟨2, ![2048, 512]⟩
abbrev S1024x512 : Shape := ⟨2, ![1024, 512]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S8192x1024, .bf16⟩
  | .hbm, ⟨3, _⟩ => ⟨S8192x1024, .bf16⟩
  | .hbm, ⟨4, _⟩ => ⟨S1024x1024, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 2, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference16Ideal.lean ====
abbrev S8192x1024 : Shape := ⟨2, ![8192, 1024]⟩
abbrev S_ : Shape := ⟨0, ![]⟩
abbrev S1024x1024 : Shape := ⟨2, ![1024, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x1024, .f32⟩
  | .hbm, ⟨2, _⟩ => ⟨S_, .f32⟩
  | .hbm, ⟨3, _⟩ => ⟨S1024x1024, .f32⟩
  | .hbm, ⟨4, _⟩ => ⟨S8192x1024, .f32⟩
  | .hbm, ⟨5, _⟩ => ⟨S1024x1024, .f32⟩
  | .hbm, ⟨6, _⟩ => ⟨S1024x1024, .f32⟩
  | .hbm, ⟨7, _⟩ => ⟨S1024x1024, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel17.lean ====
abbrev S8192x1024 : Shape := ⟨2, ![8192, 1024]⟩
abbrev S1x1024x1024 : Shape := ⟨3, ![1, 1024, 1024]⟩
abbrev S1024x1024 : Shape := ⟨2, ![1024, 1024]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1x1024x1024, .f32⟩
  | .hbm, ⟨2, _⟩ => ⟨S8192x1024, .bf16⟩
  | .hbm, ⟨3, _⟩ => ⟨S1x1024x1024, .bf16⟩
  | .hbm, ⟨4, _⟩ => ⟨S8192x1024, .f32⟩
  | .local _ .vmem, ⟨0, _⟩ => ⟨S1024x1024, .bf16⟩
  | .local _ .vmem, ⟨1, _⟩ => ⟨S1024x1024, .bf16⟩
  | .local _ .vmem, ⟨2, _⟩ => ⟨S1x1024x1024, .bf16⟩
  | .local _ .vmem, ⟨3, _⟩ => ⟨S1024x1024, .f32⟩
  | .local _ .vmem, ⟨4, _⟩ => ⟨S1024x1024, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![8, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference17Ideal.lean ====
abbrev S8192x1024 : Shape := ⟨2, ![8192, 1024]⟩
abbrev S1x1024x1024 : Shape := ⟨3, ![1, 1024, 1024]⟩
abbrev S_ : Shape := ⟨0, ![]⟩
abbrev S1024x1024 : Shape := ⟨2, ![1024, 1024]⟩

abbrev nBuf : Space → Nat
  | .hbm => 7
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1x1024x1024, .f32⟩
  | .hbm, ⟨2, _⟩ => ⟨S_, .f32⟩
  | .hbm, ⟨3, _⟩ => ⟨S8192x1024, .f32⟩
  | .hbm, ⟨4, _⟩ => ⟨S1024x1024, .f32⟩
  | .hbm, ⟨5, _⟩ => ⟨S8192x1024, .f32⟩
  | .hbm, ⟨6, _⟩ => ⟨S8192x1024, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel18.lean ====
abbrev S8192x1024 : Shape := ⟨2, ![8192, 1024]⟩
abbrev S8192x2048 : Shape := ⟨2, ![8192, 2048]⟩
abbrev S1024x2048 : Shape := ⟨2, ![1024, 2048]⟩
abbrev S2048x1024 : Shape := ⟨2, ![2048, 1024]⟩
abbrev S2048x512 : Shape := ⟨2, ![2048, 512]⟩
abbrev S1024x512 : Shape := ⟨2, ![1024, 512]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S8192x1024, .bf16⟩
  | .hbm, ⟨3, _⟩ => ⟨S8192x2048, .bf16⟩
  | .hbm, ⟨4, _⟩ => ⟨S1024x2048, .bf16⟩
  | .local _ .vmem, ⟨0, _⟩ => ⟨S2048x1024, .bf16⟩
  | .local _ .vmem, ⟨1, _⟩ => ⟨S2048x1024, .bf16⟩
  | .local _ .vmem, ⟨2, _⟩ => ⟨S2048x512, .bf16⟩
  | .local _ .vmem, ⟨3, _⟩ => ⟨S2048x512, .bf16⟩
  | .local _ .vmem, ⟨4, _⟩ => ⟨S1024x512, .bf16⟩
  | .local _ .vmem, ⟨5, _⟩ => ⟨S1024x512, .bf16⟩
  | .local _ .vmem, ⟨6, _⟩ => ⟨S1024x512, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![1, 4, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference18Ideal.lean ====
abbrev S8192x1024 : Shape := ⟨2, ![8192, 1024]⟩
abbrev S8192x2048 : Shape := ⟨2, ![8192, 2048]⟩
abbrev S_ : Shape := ⟨0, ![]⟩
abbrev S1024x2048 : Shape := ⟨2, ![1024, 2048]⟩
abbrev S2048x1024 : Shape := ⟨2, ![2048, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2048, .f32⟩
  | .hbm, ⟨2, _⟩ => ⟨S_, .f32⟩
  | .hbm, ⟨3, _⟩ => ⟨S1024x2048, .f32⟩
  | .hbm, ⟨4, _⟩ => ⟨S8192x2048, .f32⟩
  | .hbm, ⟨5, _⟩ => ⟨S2048x1024, .f32⟩
  | .hbm, ⟨6, _⟩ => ⟨S1024x2048, .f32⟩
  | .hbm, ⟨7, _⟩ => ⟨S1024x2048, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel19.lean ====
abbrev S8192x2048 : Shape := ⟨2, ![8192, 2048]⟩
abbrev S1x1024x2048 : Shape := ⟨3, ![1, 1024, 2048]⟩
abbrev S8192x1024 : Shape := ⟨2, ![8192, 1024]⟩
abbrev S1024x2048 : Shape := ⟨2, ![1024, 2048]⟩
abbrev S1x512x2048 : Shape := ⟨3, ![1, 512, 2048]⟩
abbrev S1024x512 : Shape := ⟨2, ![1024, 512]⟩
abbrev S512x2048 : Shape := ⟨2, ![512, 2048]⟩

abbrev nBuf : Space → Nat
  | .hbm => 5
  | .vmem => 6
  | .smem => 0
  | _ => 0

abbrev bufTy : (tb : Table) → Fin (tcTables nBuf tb) → BufTy
  | .hbm, ⟨0, _⟩ => ⟨S8192x2048, .f32⟩
  | .hbm, ⟨1, _⟩ => ⟨S1x1024x2048, .f32⟩
  | .hbm, ⟨2, _⟩ => ⟨S8192x2048, .bf16⟩
  | .hbm, ⟨3, _⟩ => ⟨S1x1024x2048, .bf16⟩
  | .hbm, ⟨4, _⟩ => ⟨S8192x1024, .f32⟩
  | .local _ .vmem, ⟨0, _⟩ => ⟨S1024x2048, .bf16⟩
  | .local _ .vmem, ⟨1, _⟩ => ⟨S1024x2048, .bf16⟩
  | .local _ .vmem, ⟨2, _⟩ => ⟨S1x512x2048, .bf16⟩
  | .local _ .vmem, ⟨3, _⟩ => ⟨S1x512x2048, .bf16⟩
  | .local _ .vmem, ⟨4, _⟩ => ⟨S1024x512, .f32⟩
  | .local _ .vmem, ⟨5, _⟩ => ⟨S1024x512, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S1x512x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference19Ideal.lean ====
abbrev S8192x2048 : Shape := ⟨2, ![8192, 2048]⟩
abbrev S1x1024x2048 : Shape := ⟨3, ![1, 1024, 2048]⟩
abbrev S_ : Shape := ⟨0, ![]⟩
abbrev S8192x1024 : Shape := ⟨2, ![8192, 1024]⟩
abbrev S1024x2048 : Shape := ⟨2, ![1024, 2048]⟩

abbrev nBuf : Space → Nat
  | .hbm => 7
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S1x1024x2048, .f32⟩
  | .hbm, ⟨2, _⟩ => ⟨S_, .f32⟩
  | .hbm, ⟨3, _⟩ => ⟨S8192x1024, .f32⟩
  | .hbm, ⟨4, _⟩ => ⟨S1024x2048, .f32⟩
  | .hbm, ⟨5, _⟩ => ⟨S8192x2048, .f32⟩
  | .hbm, ⟨6, _⟩ => ⟨S8192x1024, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩

abbrev nD : Nat := 1
abbrev τ : Topo := Topo.v7x

variable {F : FTy → Type} [FloatOps F]
-- ==== Kernel20.lean ====
abbrev S8192x4096 : Shape := ⟨2, ![8192, 4096]⟩
abbrev S4096 : Shape := ⟨1, ![4096]⟩
abbrev S2048 : Shape := ⟨1, ![2048]⟩
abbrev S16x128x128 : Shape := ⟨3, ![16, 128, 128]⟩
abbrev S16x128 : Shape := ⟨2, ![16, 128]⟩
abbrev S_ : Shape := ⟨0, ![]⟩
abbrev S128x128 : Shape := ⟨2, ![128, 128]⟩
abbrev S1x128x128 : Shape := ⟨3, ![1, 128, 128]⟩
abbrev S1x4096 : Shape := ⟨2, ![1, 4096]⟩
abbrev S1x2048 : Shape := ⟨2, ![1, 2048]⟩
abbrev S128x16 : Shape := ⟨2, ![128, 16]⟩
abbrev S8192x2048 : Shape := ⟨2, ![8192, 2048]⟩
abbrev S256x4096 : Shape := ⟨2, ![256, 4096]⟩
abbrev S256x2048 : Shape := ⟨2, ![256, 2048]⟩
abbrev S256 : Shape := ⟨1, ![256]⟩
abbrev S256x1 : Shape := ⟨2, ![256, 1]⟩
abbrev S128x1 : Shape := ⟨2, ![128, 1]⟩

abbrev nBuf : Space → Nat
  | .hbm => 27
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S2048, .f32⟩
  | .hbm, ⟨3, _⟩ => ⟨S2048, .f32⟩
  | .hbm, ⟨4, _⟩ => ⟨S16x128x128, .f32⟩
  | .hbm, ⟨5, _⟩ => ⟨S16x128, .f32⟩
  | .hbm, ⟨6, _⟩ => ⟨S_, .f32⟩
  | .hbm, ⟨7, _⟩ => ⟨S128x128, .f32⟩
  | .hbm, ⟨8, _⟩ => ⟨S128x128, .i32⟩
  | .hbm, ⟨9, _⟩ => ⟨S_, .i32⟩
  | .hbm, ⟨10, _⟩ => ⟨S128x128, .i32⟩
  | .hbm, ⟨11, _⟩ => ⟨S128x128, .i32⟩
  | .hbm, ⟨12, _⟩ => ⟨S128x128, .i32⟩
  | .hbm, ⟨13, _⟩ => ⟨S128x128, .i1⟩
  | .hbm, ⟨14, _⟩ => ⟨S_, .f32⟩
  | .hbm, ⟨15, _⟩ => ⟨S128x128, .f32⟩
  | .hbm, ⟨16, _⟩ => ⟨S128x128, .f32⟩
  | .hbm, ⟨17, _⟩ => ⟨S1x128x128, .f32⟩
  | .hbm, ⟨18, _⟩ => ⟨S16x128x128, .f32⟩
  | .hbm, ⟨19, _⟩ => ⟨S16x128x128, .f32⟩
  | .hbm, ⟨20, _⟩ => ⟨S16x128x128, .bf16⟩
  | .hbm, ⟨21, _⟩ => ⟨S8192x4096, .bf16⟩
  | .hbm, ⟨22, _⟩ => ⟨S1x4096, .f32⟩
  | .hbm, ⟨23, _⟩ => ⟨S1x2048, .f32⟩
  | .hbm, ⟨24, _⟩ => ⟨S1x2048, .f32⟩
  | .hbm, ⟨25, _⟩ => ⟨S128x16, .f32⟩
  | .hbm, ⟨26, _⟩ => ⟨S8192x2048, .bf16⟩
  | .local _ .vmem, ⟨0, _⟩ => ⟨S256x4096, .bf16⟩
  | .local _ .vmem, ⟨1, _⟩ => ⟨S256x4096, .bf16⟩
  | .local _ .vmem, ⟨2, _⟩ => ⟨S1x4096, .f32⟩
  | .local _ .vmem, ⟨3, _⟩ => ⟨S1x2048, .f32⟩
  | .local _ .vmem, ⟨4, _⟩ => ⟨S1x2048, .f32⟩
  | .local _ .vmem, ⟨5, _⟩ => ⟨S16x128x128, .bf16⟩
  | .local _ .vmem, ⟨6, _⟩ => ⟨S128x16, .f32⟩
  | .local _ .vmem, ⟨7, _⟩ => ⟨S256x2048, .bf16⟩
  | .local _ .vmem, ⟨8, _⟩ => ⟨S256x2048, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_cst : Ref sig .tc := ⟨.hbm, 14, rfl⟩
abbrev main_call0_v5 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg6_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem6_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x2048 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x128x128 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x16 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S256x2048 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]
-- ==== Reference20Ideal.lean ====
abbrev S8192x4096 : Shape := ⟨2, ![8192, 4096]⟩
abbrev S4096 : Shape := ⟨1, ![4096]⟩
abbrev S2048 : Shape := ⟨1, ![2048]⟩
abbrev S16x128x128 : Shape := ⟨3, ![16, 128, 128]⟩
abbrev S16x128 : Shape := ⟨2, ![16, 128]⟩
abbrev S_ : Shape := ⟨0, ![]⟩
abbrev S128x128 : Shape := ⟨2, ![128, 128]⟩
abbrev S1x128x128 : Shape := ⟨3, ![1, 128, 128]⟩
abbrev S8192x2048 : Shape := ⟨2, ![8192, 2048]⟩
abbrev S128x16 : Shape := ⟨2, ![128, 16]⟩
abbrev S1x2048 : Shape := ⟨2, ![1, 2048]⟩
abbrev S8192 : Shape := ⟨1, ![8192]⟩
abbrev S8192x1 : Shape := ⟨2, ![8192, 1]⟩
abbrev S64x128x16x128 : Shape := ⟨4, ![64, 128, 16, 128]⟩
abbrev S16x64x128x128 : Shape := ⟨4, ![16, 64, 128, 128]⟩
abbrev S128x16x1 : Shape := ⟨3, ![128, 16, 1]⟩
abbrev S1x128x16x1 : Shape := ⟨4, ![1, 128, 16, 1]⟩

abbrev nBuf : Space → Nat
  | .hbm => 102
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S2048, .f32⟩
  | .hbm, ⟨3, _⟩ => ⟨S2048, .f32⟩
  | .hbm, ⟨4, _⟩ => ⟨S16x128x128, .f32⟩
  | .hbm, ⟨5, _⟩ => ⟨S16x128, .f32⟩
  | .hbm, ⟨6, _⟩ => ⟨S_, .f32⟩
  | .hbm, ⟨7, _⟩ => ⟨S128x128, .f32⟩
  | .hbm, ⟨8, _⟩ => ⟨S128x128, .i32⟩
  | .hbm, ⟨9, _⟩ => ⟨S_, .i32⟩
  | .hbm, ⟨10, _⟩ => ⟨S128x128, .i32⟩
  | .hbm, ⟨11, _⟩ => ⟨S128x128, .i32⟩
  | .hbm, ⟨12, _⟩ => ⟨S128x128, .i32⟩
  | .hbm, ⟨13, _⟩ => ⟨S128x128, .i1⟩
  | .hbm, ⟨14, _⟩ => ⟨S_, .f32⟩
  | .hbm, ⟨15, _⟩ => ⟨S128x128, .f32⟩
  | .hbm, ⟨16, _⟩ => ⟨S128x128, .f32⟩
  | .hbm, ⟨17, _⟩ => ⟨S1x128x128, .f32⟩
  | .hbm, ⟨18, _⟩ => ⟨S16x128x128, .f32⟩
  | .hbm, ⟨19, _⟩ => ⟨S16x128x128, .f32⟩
  | .hbm, ⟨20, _⟩ => ⟨S8192x2048, .f32⟩
  | .hbm, ⟨21, _⟩ => ⟨S8192x2048, .f32⟩
  | .hbm, ⟨22, _⟩ => ⟨S2048, .f32⟩
  | .hbm, ⟨23, _⟩ => ⟨S2048, .f32⟩
  | .hbm, ⟨24, _⟩ => ⟨S128x16, .f32⟩
  | .hbm, ⟨25, _⟩ => ⟨S1x2048, .f32⟩
  | .hbm, ⟨26, _⟩ => ⟨S8192x2048, .f32⟩
  | .hbm, ⟨27, _⟩ => ⟨S8192x2048, .f32⟩
  | .hbm, ⟨28, _⟩ => ⟨S8192x2048, .f32⟩
  | .hbm, ⟨29, _⟩ => ⟨S8192x2048, .f32⟩
  | .hbm, ⟨30, _⟩ => ⟨S_, .f32⟩
  | .hbm, ⟨31, _⟩ => ⟨S8192x2048, .f32⟩
  | .hbm, ⟨32, _⟩ => ⟨S8192x2048, .f32⟩
  | .hbm, ⟨33, _⟩ => ⟨S8192x2048, .f32⟩
  | .hbm, ⟨34, _⟩ => ⟨S_, .f32⟩
  | .hbm, ⟨35, _⟩ => ⟨S8192x2048, .f32⟩
  | .hbm, ⟨36, _⟩ => ⟨S8192x2048, .f32⟩
  | .hbm, ⟨37, _⟩ => ⟨S8192x2048, .f32⟩
  | .hbm, ⟨38, _⟩ => ⟨S_, .f32⟩
  | .hbm, ⟨39, _⟩ => ⟨S8192x2048, .f32⟩
  | .hbm, ⟨40, _⟩ => ⟨S8192x2048, .f32⟩
  | .hbm, ⟨41, _⟩ => ⟨S_, .f32⟩
  | .hbm, ⟨42, _⟩ => ⟨S8192x2048, .f32⟩
  | .hbm, ⟨43, _⟩ => ⟨S8192x2048, .f32⟩
  | .hbm, ⟨44, _⟩ => ⟨S8192x2048, .f32⟩
  | .hbm, ⟨45, _⟩ => ⟨S1x2048, .f32⟩
  | .hbm, ⟨46, _⟩ => ⟨S8192x2048, .f32⟩
  | .hbm, ⟨47, _⟩ => ⟨S8192x2048, .f32⟩
  | .hbm, ⟨48, _⟩ => ⟨S8192x2048, .f32⟩
  | .hbm, ⟨49, _⟩ => ⟨S8192x2048, .f32⟩
  | .hbm, ⟨50, _⟩ => ⟨S_, .f32⟩
  | .hbm, ⟨51, _⟩ => ⟨S8192x2048, .f32⟩
  | .hbm, ⟨52, _⟩ => ⟨S8192x2048, .f32⟩
  | .hbm, ⟨53, _⟩ => ⟨S8192x2048, .f32⟩
  | .hbm, ⟨54, _⟩ => ⟨S_, .f32⟩
  | .hbm, ⟨55, _⟩ => ⟨S8192x2048, .f32⟩
  | .hbm, ⟨56, _⟩ => ⟨S8192x2048, .f32⟩
  | .hbm, ⟨57, _⟩ => ⟨S8192x2048, .f32⟩
  | .hbm, ⟨58, _⟩ => ⟨S_, .f32⟩
  | .hbm, ⟨59, _⟩ => ⟨S8192x2048, .f32⟩
  | .hbm, ⟨60, _⟩ => ⟨S8192x2048, .f32⟩
  | .hbm, ⟨61, _⟩ => ⟨S_, .f32⟩
  | .hbm, ⟨62, _⟩ => ⟨S8192x2048, .f32⟩
  | .hbm, ⟨63, _⟩ => ⟨S8192x2048, .f32⟩
  | .hbm, ⟨64, _⟩ => ⟨S8192x2048, .f32⟩
  | .hbm, ⟨65, _⟩ => ⟨S_, .f32⟩
  | .hbm, ⟨66, _⟩ => ⟨S8192, .f32⟩
  | .hbm, ⟨67, _⟩ => ⟨S8192x1, .f32⟩
  | .hbm, ⟨68, _⟩ => ⟨S_, .f32⟩
  | .hbm, ⟨69, _⟩ => ⟨S8192x1, .f32⟩
  | .hbm, ⟨70, _⟩ => ⟨S8192x1, .f32⟩
  | .hbm, ⟨71, _⟩ => ⟨S8192x2048, .f32⟩
  | .hbm, ⟨72, _⟩ => ⟨S8192x2048, .f32⟩
  | .hbm, ⟨73, _⟩ => ⟨S8192x2048, .f32⟩
  | .hbm, ⟨74, _⟩ => ⟨S_, .f32⟩
  | .hbm, ⟨75, _⟩ => ⟨S8192, .f32⟩
  | .hbm, ⟨76, _⟩ => ⟨S8192x1, .f32⟩
  | .hbm, ⟨77, _⟩ => ⟨S_, .f32⟩
  | .hbm, ⟨78, _⟩ => ⟨S8192x1, .f32⟩
  | .hbm, ⟨79, _⟩ => ⟨S8192x1, .f32⟩
  | .hbm, ⟨80, _⟩ => ⟨S_, .f32⟩
  | .hbm, ⟨81, _⟩ => ⟨S8192x1, .f32⟩
  | .hbm, ⟨82, _⟩ => ⟨S8192x1, .f32⟩
  | .hbm, ⟨83, _⟩ => ⟨S8192x1, .f32⟩
  | .hbm, ⟨84, _⟩ => ⟨S8192x2048, .f32⟩
  | .hbm, ⟨85, _⟩ => ⟨S8192x2048, .f32⟩
  | .hbm, ⟨86, _⟩ => ⟨S1x2048, .f32⟩
  | .hbm, ⟨87, _⟩ => ⟨S8192x2048, .f32⟩
  | .hbm, ⟨88, _⟩ => ⟨S8192x2048, .f32⟩
  | .hbm, ⟨89, _⟩ => ⟨S1x2048, .f32⟩
  | .hbm, ⟨90, _⟩ => ⟨S8192x2048, .f32⟩
  | .hbm, ⟨91, _⟩ => ⟨S8192x2048, .f32⟩
  | .hbm, ⟨92, _⟩ => ⟨S64x128x16x128, .f32⟩
  | .hbm, ⟨93, _⟩ => ⟨S16x64x128x128, .f32⟩
  | .hbm, ⟨94, _⟩ => ⟨S64x128x16x128, .f32⟩
  | .hbm, ⟨95, _⟩ => ⟨S128x16x1, .f32⟩
  | .hbm, ⟨96, _⟩ => ⟨S1x128x16x1, .f32⟩
  | .hbm, ⟨97, _⟩ => ⟨S64x128x16x128, .f32⟩
  | .hbm, ⟨98, _⟩ => ⟨S64x128x16x128, .f32⟩
  | .hbm, ⟨99, _⟩ => ⟨S8192x2048, .f32⟩
  | .hbm, ⟨100, _⟩ => ⟨S8192x2048, .f32⟩
  | .hbm, ⟨101, _⟩ => ⟨S8192x2048, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_cst : Ref sig .tc := ⟨.hbm, 6, rfl⟩
abbrev main_v0 : Ref sig .tc := ⟨.hbm, 7, rfl⟩
abbrev main_call0_v0 : Ref sig .tc := ⟨.hbm, 8, rfl⟩
abbrev main_call0_c : Ref sig .tc := ⟨.hbm, 9, rfl⟩
abbrev main_call0_v1 : Ref sig .tc := ⟨.hbm, 10, rfl⟩
abbrev main_call0_v2 : Ref sig .tc := ⟨.hbm, 11, rfl⟩
abbrev main_call0_v3 : Ref sig .tc := ⟨.hbm, 12, rfl⟩
abbrev main_call0_v4 : Ref sig .tc := ⟨.hbm, 13, rfl⟩
abbrev main_call0_cst : Ref sig .tc := ⟨.hbm, 14, rfl⟩
abbrev main_call0_v5 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_0 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_cst_1 : Ref sig .tc := ⟨.hbm, 34, rfl⟩
abbrev main_v18 : Ref sig .tc := ⟨.hbm, 35, rfl⟩
abbrev main_v19 : Ref sig .tc := ⟨.hbm, 36, rfl⟩
abbrev main_v20 : Ref sig .tc := ⟨.hbm, 37, rfl⟩
abbrev main_cst_2 : Ref sig .tc := ⟨.hbm, 38, rfl⟩
abbrev main_v21 : Ref sig .tc := ⟨.hbm, 39, rfl⟩
abbrev main_v22 : Ref sig .tc := ⟨.hbm, 40, rfl⟩
abbrev main_cst_3 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_cst_4 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_cst_5 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_cst_6 : Ref sig .tc := ⟨.hbm, 58, rfl⟩
abbrev main_v37 : Ref sig .tc := ⟨.hbm, 59, rfl⟩
abbrev main_v38 : Ref sig .tc := ⟨.hbm, 60, rfl⟩
abbrev main_cst_7 : Ref sig .tc := ⟨.hbm, 61, rfl⟩
abbrev main_v39 : Ref sig .tc := ⟨.hbm, 62, rfl⟩
abbrev main_v40 : Ref sig .tc := ⟨.hbm, 63, rfl⟩
abbrev main_v41 : Ref sig .tc := ⟨.hbm, 64, rfl⟩
abbrev main_cst_8 : Ref sig .tc := ⟨.hbm, 65, rfl⟩
abbrev main_v42 : Ref sig .tc := ⟨.hbm, 66, rfl⟩
abbrev main_v43 : Ref sig .tc := ⟨.hbm, 67, rfl⟩
abbrev main_cst_9 : Ref sig .tc := ⟨.hbm, 68, rfl⟩
abbrev main_v44 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_cst_10 : Ref sig .tc := ⟨.hbm, 74, rfl⟩
abbrev main_v49 : Ref sig .tc := ⟨.hbm, 75, rfl⟩
abbrev main_v50 : Ref sig .tc := ⟨.hbm, 76, rfl⟩
abbrev main_cst_11 : Ref sig .tc := ⟨.hbm, 77, rfl⟩
abbrev main_v51 : Ref sig .tc := ⟨.hbm, 78, rfl⟩
abbrev main_v52 : Ref sig .tc := ⟨.hbm, 79, rfl⟩
abbrev main_cst_12 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev main_v59 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_v65 : Ref sig .tc := ⟨.hbm, 93, rfl⟩
abbrev main_v66 : Ref sig .tc := ⟨.hbm, 94, rfl⟩
abbrev main_v67 : Ref sig .tc := ⟨.hbm, 95, rfl⟩
abbrev main_v68 : Ref sig .tc := ⟨.hbm, 96, rfl⟩
abbrev main_v69 : Ref sig .tc := ⟨.hbm, 97, rfl⟩
abbrev main_v70 : Ref sig .tc := ⟨.hbm, 98, rfl⟩
abbrev main_v71 : Ref sig .tc := ⟨.hbm, 99, rfl⟩
abbrev main_v72 : Ref sig .tc := ⟨.hbm, 100, rfl⟩
abbrev main_v73 : Ref sig .tc := ⟨.hbm, 101, rfl⟩

abbrev nD : Nat := 1
abbrev τ : Topo := Topo.v7x

variable {F : FTy → Type} [FloatOps F]
-- ==== Kernel21.lean ====
abbrev S8192x1024 : Shape := ⟨2, ![8192, 1024]⟩
abbrev S1024x2176 : Shape := ⟨2, ![1024, 2176]⟩
abbrev S8192x2176 : Shape := ⟨2, ![8192, 2176]⟩
abbrev S512x1024 : Shape := ⟨2, ![512, 1024]⟩
abbrev S512x2176 : Shape := ⟨2, ![512, 2176]⟩

abbrev nBuf : Space → Nat
  | .hbm => 5
  | .vmem => 5
  | .smem => 0
  | _ => 0

abbrev bufTy : (tb : Table) → Fin (tcTables nBuf tb) → BufTy
  | .hbm, ⟨0, _⟩ => ⟨S8192x1024, .f32⟩
  | .hbm, ⟨1, _⟩ => ⟨S1024x2176, .f32⟩
  | .hbm, ⟨2, _⟩ => ⟨S8192x1024, .bf16⟩
  | .hbm, ⟨3, _⟩ => ⟨S1024x2176, .bf16⟩
  | .hbm, ⟨4, _⟩ => ⟨S8192x2176, .f32⟩
  | .local _ .vmem, ⟨0, _⟩ => ⟨S512x1024, .bf16⟩
  | .local _ .vmem, ⟨1, _⟩ => ⟨S512x1024, .bf16⟩
  | .local _ .vmem, ⟨2, _⟩ => ⟨S1024x2176, .bf16⟩
  | .local _ .vmem, ⟨3, _⟩ => ⟨S512x2176, .f32⟩
  | .local _ .vmem, ⟨4, _⟩ => ⟨S512x2176, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨3, ![16, 1, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 1 → Memref sig .tc .vmem S1024x2176 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, true, true]

abbrev stage0_2 : Fin 2 → Memref sig .tc .vmem S512x2176 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference21Ideal.lean ====
abbrev S8192x1024 : Shape := ⟨2, ![8192, 1024]⟩
abbrev S1024x2176 : Shape := ⟨2, ![1024, 2176]⟩
abbrev S8192x2176 : Shape := ⟨2, ![8192, 2176]⟩

abbrev nBuf : Space → Nat
  | .hbm => 3
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S1024x2176, .f32⟩
  | .hbm, ⟨2, _⟩ => ⟨S8192x2176, .f32⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩

abbrev nD : Nat := 1
abbrev τ : Topo := Topo.v7x

variable {F : FTy → Type} [FloatOps F]
-- ==== Kernel22.lean ====
abbrev S8192x1024 : Shape := ⟨2, ![8192, 1024]⟩
abbrev S8192x2176 : Shape := ⟨2, ![8192, 2176]⟩
abbrev S1024x2176 : Shape := ⟨2, ![1024, 2176]⟩
abbrev S2048x512 : Shape := ⟨2, ![2048, 512]⟩
abbrev S2048x2176 : Shape := ⟨2, ![2048, 2176]⟩
abbrev S512x2176 : Shape := ⟨2, ![512, 2176]⟩

abbrev nBuf : Space → Nat
  | .hbm => 5
  | .vmem => 7
  | .smem => 0
  | _ => 0

abbrev bufTy : (tb : Table) → Fin (tcTables nBuf tb) → BufTy
  | .hbm, ⟨0, _⟩ => ⟨S8192x1024, .f32⟩
  | .hbm, ⟨1, _⟩ => ⟨S8192x2176, .f32⟩
  | .hbm, ⟨2, _⟩ => ⟨S8192x1024, .bf16⟩
  | .hbm, ⟨3, _⟩ => ⟨S8192x2176, .bf16⟩
  | .hbm, ⟨4, _⟩ => ⟨S1024x2176, .bf16⟩
  | .local _ .vmem, ⟨0, _⟩ => ⟨S2048x512, .bf16⟩
  | .local _ .vmem, ⟨1, _⟩ => ⟨S2048x512, .bf16⟩
  | .local _ .vmem, ⟨2, _⟩ => ⟨S2048x2176, .bf16⟩
  | .local _ .vmem, ⟨3, _⟩ => ⟨S2048x2176, .bf16⟩
  | .local _ .vmem, ⟨4, _⟩ => ⟨S512x2176, .bf16⟩
  | .local _ .vmem, ⟨5, _⟩ => ⟨S512x2176, .bf16⟩
  | .local _ .vmem, ⟨6, _⟩ => ⟨S512x2176, .f32⟩
  | _, _ => ⟨S8192x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![2, 1, 4], ![false, false, false]⟩

def k0_cond3 (i : grid0.Coords) : BitVec 1 :=
  let arg2 : BitVec 32 := BitVec.ofNat 32 (i 2).val
  let c3_i32 : BitVec 32 := 3#32
  let v11 : BitVec 1 := Scalar.cmpi .eq arg2 c3_i32
  let v12 : BitVec 32 := Scalar.extui v11
  let c0_i32_6 : BitVec 32 := 0#32
  let v13 : BitVec 1 := Scalar.cmpi .ne v12 c0_i32_6
  v13

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg0.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S2048x2176 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x2176 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference22Ideal.lean ====
abbrev S8192x1024 : Shape := ⟨2, ![8192, 1024]⟩
abbrev S8192x2176 : Shape := ⟨2, ![8192, 2176]⟩
abbrev S_ : Shape := ⟨0, ![]⟩
abbrev S1024x2176 : Shape := ⟨2, ![1024, 2176]⟩
abbrev S2176x1024 : Shape := ⟨2, ![2176, 1024]⟩

abbrev nBuf : Space → Nat
  | .hbm => 8
  | .vmem => 0
  | .smem => 0
  | _ => 0

abbrev bufTy : (tb : Table) → Fin (tcTables nBuf tb) → BufTy
  | .hbm, ⟨0, _⟩ => ⟨S8192x1024, .f32⟩
  | .hbm, ⟨1, _⟩ => ⟨S8192x2176, .f32⟩
  | .hbm, ⟨2, _⟩ => ⟨S_, .f32⟩
  | .hbm, ⟨3, _⟩ => ⟨S1024x2176, .f32⟩
  | .hbm, ⟨4, _⟩ => ⟨S8192x2176, .f32⟩
  | .hbm, ⟨5, _⟩ => ⟨S2176x1024, .f32⟩
  | .hbm, ⟨6, _⟩ => ⟨S1024x2176, .f32⟩
  | .hbm, ⟨7, _⟩ => ⟨S1024x2176, .bf16⟩
  | _, _ => ⟨S8192x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩

abbrev nD : Nat := 1
abbrev τ : Topo := Topo.v7x

variable {F : FTy → Type} [FloatOps F]
-- ==== Kernel23.lean ====
abbrev S8192x2176 : Shape := ⟨2, ![8192, 2176]⟩
abbrev S1024x2176 : Shape := ⟨2, ![1024, 2176]⟩
abbrev S8192x1024 : Shape := ⟨2, ![8192, 1024]⟩
abbrev S512x2176 : Shape := ⟨2, ![512, 2176]⟩
abbrev S1024x512 : Shape := ⟨2, ![1024, 512]⟩

abbrev nBuf : Space → Nat
  | .hbm => 5
  | .vmem => 6
  | .smem => 0
  | _ => 0

abbrev bufTy : (tb : Table) → Fin (tcTables nBuf tb) → BufTy
  | .hbm, ⟨0, _⟩ => ⟨S8192x2176, .f32⟩
  | .hbm, ⟨1, _⟩ => ⟨S1024x2176, .f32⟩
  | .hbm, ⟨2, _⟩ => ⟨S8192x2176, .bf16⟩
  | .hbm, ⟨3, _⟩ => ⟨S1024x2176, .bf16⟩
  | .hbm, ⟨4, _⟩ => ⟨S8192x1024, .f32⟩
  | .local _ .vmem, ⟨0, _⟩ => ⟨S1024x2176, .bf16⟩
  | .local _ .vmem, ⟨1, _⟩ => ⟨S1024x2176, .bf16⟩
  | .local _ .vmem, ⟨2, _⟩ => ⟨S512x2176, .bf16⟩
  | .local _ .vmem, ⟨3, _⟩ => ⟨S512x2176, .bf16⟩
  | .local _ .vmem, ⟨4, _⟩ => ⟨S1024x512, .f32⟩
  | .local _ .vmem, ⟨5, _⟩ => ⟨S1024x512, .f32⟩
  | _, _ => ⟨S8192x2176, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨3, ![8, 2, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg1.toNat, arg2.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S1024x2176 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S512x2176 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]
-- ==== Reference23Ideal.lean ====
abbrev S8192x2176 : Shape := ⟨2, ![8192, 2176]⟩
abbrev S1024x2176 : Shape := ⟨2, ![1024, 2176]⟩
abbrev S_ : Shape := ⟨0, ![]⟩
abbrev S8192x1024 : Shape := ⟨2, ![8192, 1024]⟩

abbrev nBuf : Space → Nat
  | .hbm => 6
  | .vmem => 0
  | .smem => 0
  | _ => 0

abbrev bufTy : (tb : Table) → Fin (tcTables nBuf tb) → BufTy
  | .hbm, ⟨0, _⟩ => ⟨S8192x2176, .f32⟩
  | .hbm, ⟨1, _⟩ => ⟨S1024x2176, .f32⟩
  | .hbm, ⟨2, _⟩ => ⟨S_, .f32⟩
  | .hbm, ⟨3, _⟩ => ⟨S8192x1024, .f32⟩
  | .hbm, ⟨4, _⟩ => ⟨S8192x2176, .f32⟩
  | .hbm, ⟨5, _⟩ => ⟨S8192x1024, .f32⟩
  | _, _ => ⟨S8192x2176, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_cst : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩

abbrev nD : Nat := 1
abbrev τ : Topo := Topo.v7x

variable {F : FTy → Type} [FloatOps F]
-- ==== Proof.FfnValue.lean ====
module

public import proofs.«01_k».proof.Proof.Gen.KernelIdeal.Value
public import proofs.«01_k».proof.Proof.Gen.ReferenceIdeal.Read
public import Idealize.ShloMosaic.Lib.Pipeline.ValueKit
public import Idealize.ShloMosaic.Lib.Pointwise

@[expose] public section

set_option maxRecDepth 16384

noncomputable section

namespace Cert.FfnValue

open Cert.KernelIdeal Cert.KernelIdeal.Gen Idealize.ShloMosaic Idealize.ShloMosaic.TcCoe Idealize.SL.Sem
open Idealize.ShloMosaic.Pipeline (Dat)
open Cert.ReferenceIdeal (S8192x2816)
open Cert.ReferenceIdeal.Read

/-- Each window's block index at a point: the row block is `t / 2`, the column block `t % 2`. -/
theorem idx : ∀ t : Fin cfg0.N, win0_0.index t = ![t.val / 2, 0] ∧ win0_1.index t = ![0, t.val % 2, 0]
    ∧ win0_2.index t = ![t.val / 2, t.val % 2] ∧ win0_3.index t = ![t.val / 2, t.val % 2] :=
  (by decide +kernel : ∀ t : Fin grid0.N, _)

variable (x0 : (⟨S8192x1024, .f32⟩ : BufTy).Contents (Elt Ideal)) (x1 : (⟨S1x2816x1024, .f32⟩ : BufTy).Contents (Elt Ideal))
  (x2 : (⟨S8192x5632, .f32⟩ : BufTy).Contents (Elt Ideal))

/-- The gradient of the gated activation at row `r`, hidden unit `f`: row `r` of `dy` against row `f` of the weight. -/
def dact (r : Fin 8192) (f : Fin 2816) : EReal := ∑ k : Fin 1024, x0 (ix2 r k) * x1 (ix3 0 f k)

/-- The logistic function of one element, as the reference writes it. -/
def logi (g : EReal) : EReal := Ideal.div 1 (1 + Ideal.exp (-g))

/-- Hidden unit `1408 b + q`'s gate is column `2816 b + q` of the saved product, and its up part is 1408 columns further. -/
theorem gate_up (b q : ℕ) (hb : b < 2) (hq : q < 1408) (j : S8192x2816.Idx) (h : (j 1 : ℕ) = 1408 * b + q) :
    val_main_v2 (F := Ideal) x2 j = x2 (ix2 (j 0) ⟨2816 * b + q, by omega⟩)
      ∧ val_main_v5 (F := Ideal) x2 j = x2 (ix2 (j 0) ⟨2816 * b + q + 1408, by omega⟩) := by
  obtain rfl | rfl : b = 0 ∨ b = 1 := by omega
  all_goals
    constructor
    all_goals
      pointwise [val_main_v2, val_main_v0, val_main_v1, val_main_v5, val_main_v3, val_main_v4]
      simp (disch := omega) only [dif_pos, dif_neg]
      blk_ext []

theorem v10_at (j : S8192x2816.Idx) : val_main_v10 (F := Ideal) x0 x1 j = dact x0 x1 (j 0) (j 1) := by
  pointwise [val_main_v10, val_main_v8]
  rfl

theorem one_bits : (FloatOps.ofBits (F := Ideal) .f32 0x3F800000#32 : EReal) = 1 := by
  pointwise []

/-- The reference's gradient of the gates, at row `j 0` and hidden unit `j 1`. -/
theorem v13_at (j : S8192x2816.Idx) : val_main_v13 (F := Ideal) x0 x1 x2 j =
    dact x0 x1 (j 0) (j 1) * val_main_v5 (F := Ideal) x2 j * logi (val_main_v2 (F := Ideal) x2 j)
        + val_main_v2 (F := Ideal) x2 j * (dact x0 x1 (j 0) (j 1) * val_main_v5 (F := Ideal) x2 j)
          * (logi (val_main_v2 (F := Ideal) x2 j) * (1 - logi (val_main_v2 (F := Ideal) x2 j))) := by
  simp only [val_main_v13_apply, val_main_call1_v0_apply, val_main_call1_v1_apply, val_main_call1_v2_apply, val_main_v12_apply,
    val_main_v6_2_apply, val_main_v6_1_apply, val_main_call0_v7_apply, val_main_call0_v3_apply, val_main_call0_v1_apply,
    val_main_call0_v0_apply, val_main_call0_v2_apply, val_main_call0_v4_apply, val_main_call0_v6_apply, v10_at,
    val_main_call0_cst_apply, val_main_call0_cst_0_apply, val_main_call0_cst_1_apply, one_bits]
  rfl

/-- The reference's gradient of the up parts, at row `j 0` and hidden unit `j 1`. -/
theorem v11_at (j : S8192x2816.Idx) : val_main_v11 (F := Ideal) x0 x1 x2 j =
    val_main_v2 (F := Ideal) x2 j * logi (val_main_v2 (F := Ideal) x2 j) * dact x0 x1 (j 0) (j 1) := by
  simp only [val_main_v11_apply, val_main_v6_0_apply, val_main_v6_2_apply, val_main_call0_v3_apply, val_main_call0_v1_apply,
    val_main_call0_v0_apply, val_main_call0_v2_apply, val_main_call0_v4_apply, v10_at,
    val_main_call0_cst_apply, val_main_call0_cst_0_apply, one_bits]
  rfl

/-- The reference's result in a gate column (`b` the shard pair, `q` the column within the shard). -/
theorem ref_gate (b q : ℕ) (hb : b < 2) (hq : q < 1408) (i : S8192x5632.Idx) (h : (i 1 : ℕ) = 2816 * b + q) :
    val_main_v19 (F := Ideal) x0 x1 x2 i = val_main_v13 (F := Ideal) x0 x1 x2 (ix2 (i 0) ⟨1408 * b + q, by omega⟩) := by
  obtain rfl | rfl : b = 0 ∨ b = 1 := by omega
  all_goals
    pointwise [val_main_v19, val_main_v18, val_main_v14, val_main_v15, val_main_v16, val_main_v17]
    simp (disch := omega) only [dif_pos, dif_neg]
    refine congrArg (fun z : Fin 2816 => val_main_v13 (F := Ideal) x0 x1 x2 (ix2 (i 0) z)) (Fin.ext ?_)
    simp only []
    omega

/-- The reference's result in an up column. -/
theorem ref_up (b q : ℕ) (hb : b < 2) (hq : q < 1408) (i : S8192x5632.Idx) (h : (i 1 : ℕ) = 2816 * b + q + 1408) :
    val_main_v19 (F := Ideal) x0 x1 x2 i = val_main_v11 (F := Ideal) x0 x1 x2 (ix2 (i 0) ⟨1408 * b + q, by omega⟩) := by
  obtain rfl | rfl : b = 0 ∨ b = 1 := by omega
  all_goals
    pointwise [val_main_v19, val_main_v18, val_main_v14, val_main_v15, val_main_v16, val_main_v17]
    simp (disch := omega) only [dif_pos, dif_neg]
    refine congrArg (fun z : Fin 2816 => val_main_v11 (F := Ideal) x0 x1 x2 (ix2 (i 0) z)) (Fin.ext ?_)
    simp only []
    omega

theorem final (m : (ℓ : Loc nD τ sig) → Buf (Elt Ideal) ℓ) (c : Dev nD) : (dats m 0 c).arrAt 3 cfg0.N
    = val_main_v19 (F := Ideal) (m ((c.tc : Thread nD τ).loc main_arg0))
        (m ((c.tc : Thread nD τ).loc main_arg1)) (m ((c.tc : Thread nD τ).loc main_arg2)) := by
  refine (dats m 0 c).arrAt_eq_of_covers 3 _ (by decide +kernel) fun t hf y => ?_
  have e1 : ((((cfg0.win 3).blk t).view.emb y) 1 : ℕ) = 2816 * (t.val % 2) + (y 1).val := by
    blk_simp [idx t]
    simp
    omega
  have hb : t.val % 2 < 2 := by omega
  rw [after0_3]
  unfold out0_3
  canon_tiles x h
  · have h1' : (y 1 : ℕ) = 1408 + x 1 := h1
    have h0' : (y 0 : ℕ) = x 0 := h0
    rw [ref_up _ _ _ (t.val % 2) (x 1) hb x1_lt _ (by omega), v11_at, (gate_up _ (t.val % 2) (x 1) hb x1_lt _ rfl).1]
    blk_simp
    open_payloads
    pointwise [dact]
    simp only [Ideal.logistic, logi]
    blk_point [iblk, V, idx t] <;> omega
  · have h1' : (y 1 : ℕ) = x 1 := h1
    have h0' : (y 0 : ℕ) = x 0 := h0
    rw [ref_gate _ _ _ (t.val % 2) (x 1) hb x1_lt _ (by omega), v13_at, (gate_up _ (t.val % 2) (x 1) hb x1_lt _ rfl).1,
      (gate_up _ (t.val % 2) (x 1) hb x1_lt _ rfl).2]
    blk_simp
    open_payloads
    pointwise [dact]
    simp only [Ideal.logistic, logi]
    blk_point [iblk, V, idx t] <;> omega

end Cert.FfnValue
end
-- ==== Proof.GmlpMath.lean ====
module

public import Idealize.ShloMosaic.Lib.Pipeline.ValueKit
public import Idealize.ShloMosaic.Lib.Pointwise

@[expose] public section

set_option maxRecDepth 16384

noncomputable section

namespace Cert.GmlpMath

open Idealize.ShloMosaic

/-! ## One element: the tanh form of the activation, and its derivative -/

/-- The tanh of the activation's cubic, `tanh (c₁ (p + c₂ p³))`. -/
def th (p : EReal) : EReal := Ideal.tanh (Ideal.ofBits .f32 0x3F4C422A#32 * (p + Ideal.ofBits .f32 0x3D372713#32 * (p * (p * p))))

/-- The activation `p · ½ (1 + tanh …)`. -/
def gel (p : EReal) : EReal := p * (Ideal.ofBits .f32 0x3F000000#32 * (1 + th p))

/-- The part of the activation's gradient that goes through the tanh, for the incoming gradient `d`. -/
def dth (p d : EReal) : EReal :=
  Ideal.ofBits .f32 0x3F4C422A#32 * (Ideal.ofBits .f32 0x3F000000#32 * (p * d) * ((1 + th p) * (1 - th p)))

/-- The activation's gradient at `p` times the incoming gradient `d`. -/
def dgel (p d : EReal) : EReal :=
  d * (Ideal.ofBits .f32 0x3F000000#32 * (1 + th p)) + dth p d
    + Ideal.ofBits .f32 0x3D372713#32 * dth p d * (Ideal.ofBits .f32 0x40400000#32 * (p * p))

/-! ## One row: the normalisation, and its gradient -/

section Row

variable (v g b d : Fin 2048 → EReal)

/-- The row less its mean. -/
def xc (j : Fin 2048) : EReal := v j - Ideal.div (∑ k, v k) (Ideal.ofBits .f32 0x45000000#32)

/-- The row's variance plus ε. -/
def ve : EReal := Ideal.div (∑ k, xc v k * xc v k) (Ideal.ofBits .f32 0x45000000#32) + Ideal.ofBits .f32 0x358637BD#32

/-- The normalised row before its gain and shift. -/
def xn (j : Fin 2048) : EReal := xc v j * Ideal.rsqrt (ve v)

/-- The normalised row. -/
def lnorm (j : Fin 2048) : EReal := xn v j * g j + b j

/-- The gradient that reaches the variance, divided by the row's length. -/
def dvar : EReal :=
  Ideal.div ((∑ k, xc v k * (d k * g k)) * (Ideal.ofBits .f32 0xBF000000#32 * Ideal.div (Ideal.rsqrt (ve v)) (ve v)))
    (Ideal.ofBits .f32 0x45000000#32)

/-- The gradient of the centred row. -/
def dxc (j : Fin 2048) : EReal := d j * g j * Ideal.rsqrt (ve v) + xc v j * dvar v g d + dvar v g d * xc v j

/-- The gradient of the row: that of the centred row less its mean. -/
def dln (j : Fin 2048) : EReal := dxc v g d j + Ideal.div (∑ k, -dxc v g d k) (Ideal.ofBits .f32 0x45000000#32)

end Row

/-! ## The block: rows (tokens) by 2048 channels, in chunks of 128 tokens and 16 groups of 128 channels -/

/-- The group of channel `j`. -/
def grp (j : Fin 2048) : Fin 16 := ⟨j.val / 128, by omega⟩

/-- Channel `k` of group `g`. -/
def chan (g : Fin 16) (k : Fin 128) : Fin 2048 := ⟨128 * g.val + k.val, by omega⟩

/-- What the gradient of the gated block reads: the incoming gradient, the two pre-activations, the normalisation's gain and shift,
    the chunk mixing weights (and their transposes) and shifts, and how tokens lie in chunks. -/
structure Inp (ρ : Type) where
  /-- Token `k` of token `r`'s chunk. -/
  ch : ρ → Fin 128 → ρ
  /-- A token's place in its chunk. -/
  tk : ρ → Fin 128
  dy : ρ → Fin 2048 → EReal
  pu : ρ → Fin 2048 → EReal
  pv : ρ → Fin 2048 → EReal
  g : Fin 2048 → EReal
  b : Fin 2048 → EReal
  ws : Fin 16 → Fin 128 → Fin 128 → EReal
  wt : Fin 16 → Fin 128 → Fin 128 → EReal
  bs : Fin 128 → Fin 16 → EReal

namespace Inp

variable {ρ σ : Type} (I : Inp ρ)

/-- The gated half. -/
def u (r : ρ) (j : Fin 2048) : EReal := gel (I.pu r j)
/-- The gating half before its normalisation. -/
def v (r : ρ) (j : Fin 2048) : EReal := gel (I.pv r j)
/-- The gating half, normalised. -/
def vn (r : ρ) (j : Fin 2048) : EReal := lnorm (I.v r) I.g I.b j
/-- The gradient of the mixed gating half. -/
def dvv (r : ρ) (j : Fin 2048) : EReal := I.dy r j * I.u r j
/-- The gradient of the gated half: the incoming one times the mixed gating half. -/
def du (r : ρ) (j : Fin 2048) : EReal :=
  I.dy r j * ((∑ s, I.ws (grp j) (I.tk r) s * I.vn (I.ch r s) j) + I.bs (I.tk r) (grp j))
/-- The gradient of the normalised gating half: the transposed mixing of `dvv`. -/
def dvn (r : ρ) (j : Fin 2048) : EReal := ∑ s, I.wt (grp j) (I.tk r) s * I.dvv (I.ch r s) j
/-- The gradient of the gated half's pre-activation. -/
def dzu (r : ρ) (j : Fin 2048) : EReal := dgel (I.pu r j) (I.du r j)
/-- The gradient of the gating half's pre-activation. -/
def dzv (r : ρ) (j : Fin 2048) : EReal := dgel (I.pv r j) (dln (I.v r) I.g (I.dvn r) j)

/-- The gradient of both pre-activations of a token, side by side. -/
def dz (r : ρ) (q : Fin 4096) : EReal := if h : q.val < 2048 then I.dzu r ⟨q.val, h⟩ else I.dzv r ⟨q.val - 2048, by omega⟩
theorem dz_lo (r : ρ) (q : Fin 4096) (x : Fin 2048) (h : q.val = x.val) : I.dz r q = I.dzu r x := by
  unfold dz
  rw [dif_pos (by omega)]
  exact congrArg (I.dzu r) (Fin.ext h)
theorem dz_hi (r : ρ) (q : Fin 4096) (x : Fin 2048) (h : q.val = 2048 + x.val) : I.dz r q = I.dzv r x := by
  unfold dz
  rw [dif_neg (by omega)]
  exact congrArg (I.dzv r) (Fin.ext (by simp [h]))
/-- A token's part of the gradient of the normalisation's gain. -/
def dg (r : ρ) (j : Fin 2048) : EReal := xn (I.v r) j * I.dvn r j
/-- The gradient of the mixing weights, summed over the chunks whose tokens `row` lists. -/
def wsum {κ : Type} [Fintype κ] (row : κ → Fin 128 → ρ) (g : Fin 16) (a b : Fin 128) : EReal :=
  ∑ c, ∑ k, I.dvv (row c a) (chan g k) * I.vn (row c b) (chan g k)
/-- The gradient of the mixing shifts, summed over the same chunks. -/
def bsum {κ : Type} [Fintype κ] (row : κ → Fin 128 → ρ) (a : Fin 128) (g : Fin 16) : EReal := ∑ c, ∑ k, I.dvv (row c a) (chan g k)

/-- The same input seen through a map of tokens that keeps chunks. -/
def pull (e : σ → ρ) (ch : σ → Fin 128 → σ) : Inp σ where
  ch := ch
  tk s := I.tk (e s)
  dy s := I.dy (e s)
  pu s := I.pu (e s)
  pv s := I.pv (e s)
  g := I.g
  b := I.b
  ws := I.ws
  wt := I.wt
  bs := I.bs

variable (e : σ → ρ) (ch : σ → Fin 128 → σ)

theorem pull_vn (s : σ) (j : Fin 2048) : (I.pull e ch).vn s j = I.vn (e s) j := rfl
theorem pull_dvv (s : σ) (j : Fin 2048) : (I.pull e ch).dvv s j = I.dvv (e s) j := rfl

/-- Every gradient of a token is the same one seen through such a map. -/
theorem pull_du (h : ∀ s k, e (ch s k) = I.ch (e s) k) (s : σ) (j : Fin 2048) : (I.pull e ch).du s j = I.du (e s) j := by
  show I.dy (e s) j * ((∑ k, I.ws (grp j) (I.tk (e s)) k * I.vn (e (ch s k)) j) + _) = _
  simp only [h]; rfl

theorem pull_dvn (h : ∀ s k, e (ch s k) = I.ch (e s) k) (s : σ) (j : Fin 2048) : (I.pull e ch).dvn s j = I.dvn (e s) j := by
  show (∑ k, I.wt (grp j) (I.tk (e s)) k * I.dvv (e (ch s k)) j) = _
  simp only [h]; rfl

theorem pull_dzu (h : ∀ s k, e (ch s k) = I.ch (e s) k) (s : σ) (j : Fin 2048) : (I.pull e ch).dzu s j = I.dzu (e s) j :=
  congrArg (dgel (I.pu (e s) j)) (I.pull_du e ch h s j)

theorem pull_dzv (h : ∀ s k, e (ch s k) = I.ch (e s) k) (s : σ) (j : Fin 2048) : (I.pull e ch).dzv s j = I.dzv (e s) j :=
  congrArg (fun d => dgel (I.pv (e s) j) (dln (I.v (e s)) I.g d j)) (funext fun k => I.pull_dvn e ch h s k)

theorem pull_dz (h : ∀ s k, e (ch s k) = I.ch (e s) k) (s : σ) (q : Fin 4096) : (I.pull e ch).dz s q = I.dz (e s) q := by
  unfold dz
  split
  · exact I.pull_dzu e ch h s _
  · exact I.pull_dzv e ch h s _

theorem pull_dg (h : ∀ s k, e (ch s k) = I.ch (e s) k) (s : σ) (j : Fin 2048) : (I.pull e ch).dg s j = I.dg (e s) j :=
  congrArg (xn (I.v (e s)) j * ·) (I.pull_dvn e ch h s j)

end Inp

end Cert.GmlpMath

end
-- ==== Proof.GmlpTiles.lean ====
module

public import proofs.«01_k».proof.Proof.Gen.Kernel2Ideal.Frame
public import proofs.«01_k».proof.Proof.GmlpMath
public import Idealize.ShloMosaic.Lib.Pipeline.ValueKit
public import Idealize.ShloMosaic.Lib.Pipeline.ReadBack
public import Idealize.ShloMosaic.Lib.Pointwise

@[expose] public section

set_option maxRecDepth 16384

noncomputable section

namespace Cert.GmlpTiles

open Cert.Kernel2Ideal Cert.Kernel2Ideal.Gen Idealize.ShloMosaic Idealize.ShloMosaic.TcCoe Idealize.SL.Sem
open Cert.GmlpMath

/-- What one grid point reads, as the gradient's input: 256 tokens, two chunks. -/
def blk (x0 : Vec Ideal S256x2048 .bf16) (x1 : Vec Ideal S256x4096 .bf16) (x2 : Vec Ideal S1x4096 .f32) (x3 x4 : Vec Ideal S1x2048 .f32)
    (x5 x6 : Vec Ideal S16x128x128 .bf16) (x7 : Vec Ideal S128x16 .f32) : Inp (Fin 256) where
  ch r k := ⟨128 * (r.val / 128) + k.val, by omega⟩
  tk r := ⟨r.val % 128, by omega⟩
  dy r j := x0 (ix2 r j)
  pu r j := x1 (ix2 r ⟨j.val, by omega⟩) + x2 (ix2 0 ⟨j.val, by omega⟩)
  pv r j := x1 (ix2 r ⟨2048 + j.val, by omega⟩) + x2 (ix2 0 ⟨2048 + j.val, by omega⟩)
  g j := x3 (ix2 0 j)
  b j := x4 (ix2 0 j)
  ws g a b := x5 (ix3 g a b)
  wt g a b := x6 (ix3 g a b)
  bs a g := x7 (ix2 a g)

/-! ## The row-wise values of a grid point, at an element -/

section Rows

variable (x0 : Vec Ideal S256x2048 .bf16) (x1 : Vec Ideal S256x4096 .bf16) (x2 : Vec Ideal S1x4096 .f32) (x3 x4 : Vec Ideal S1x2048 .f32)
  (x5 x6 : Vec Ideal S16x128x128 .bf16) (x7 : Vec Ideal S128x16 .f32)

/-- The left half of the pre-activations' block. -/
abbrev ldu : Vec Ideal S256x2048 .bf16 := View.ld x1 (Rect.unit ![0, 0] ![256, 2048] inb_S256x4096_S256x2048_0_0)
/-- The right half. -/
abbrev ldv : Vec Ideal S256x2048 .bf16 := View.ld x1 (Rect.unit ![0, 2048] ![256, 2048] inb_S256x4096_S256x2048_0_2048)
/-- The left half of the biases. -/
abbrev lbu : Vec Ideal S1x2048 .f32 := View.ld x2 (Rect.unit ![0, 0] ![1, 2048] inb_S1x4096_S1x2048_0_0)
/-- The right half. -/
abbrev lbv : Vec Ideal S1x2048 .f32 := View.ld x2 (Rect.unit ![0, 2048] ![1, 2048] inb_S1x4096_S1x2048_0_2048)

/-- The gated half's pre-activation in a tile. -/
theorem pay8_eq : k0_pay8 (F := Ideal) (ldu x1) (lbu x2) = fun i => (blk x0 x1 x2 x3 x4 x5 x6 x7).pu (i 0) (i 1) := by
  funext i
  pointwise [k0_pay8, ldu, lbu, blk]

/-- The gating half's. -/
theorem pay14_eq : k0_pay14 (F := Ideal) (ldv x1) (lbv x2) = fun i => (blk x0 x1 x2 x3 x4 x5 x6 x7).pv (i 0) (i 1) := by
  funext i
  pointwise [k0_pay14, ldv, lbv, blk]

variable (a : Vec Ideal S256x2048 .bf16) (b : Vec Ideal S1x2048 .f32) (P D : FVec Ideal S256x2048 .f32) (g s : FVec Ideal S1x2048 .f32)

/-- The gated half in a tile: the activation of its pre-activation. -/
theorem pay13_eq : k0_pay13 (F := Ideal) a b = fun i => gel (k0_pay8 (F := Ideal) a b i) := by
  funext i; pointwise [k0_pay13, k0_pay12, k0_pay10, gel, th]

theorem pay15_eq : k0_pay15 (F := Ideal) a b = fun i => k0_pay14 (F := Ideal) a b i * k0_pay14 (F := Ideal) a b i := by
  funext i; pointwise [k0_pay15]

theorem pay19_eq : k0_pay19 (F := Ideal) P (fun i => P i * P i) = fun i => Ideal.ofBits .f32 0x3F000000#32 * (1 + th (P i)) := by
  funext i; pointwise [k0_pay19, k0_pay17, th]

theorem pay20_eq : k0_pay20 (F := Ideal) P (fun i => P i * P i) = fun i => xc (fun j => gel (P (ix2 (i 0) j))) (i 1) := by
  funext i; pointwise [k0_pay20, pay19_eq, xc, gel]

theorem pay21_eq : k0_pay21 (F := Ideal) P (fun i => P i * P i) = fun i => ve (fun j => gel (P (ix2 (i 0) j))) := by
  funext i; pointwise [k0_pay21, pay20_eq, ve]

theorem pay24_eq : k0_pay24 (F := Ideal) P (fun i => P i * P i) = fun i => xn (fun j => gel (P (ix2 (i 0) j))) (i 1) := by
  funext i; pointwise [k0_pay24, k0_pay22, pay21_eq, pay20_eq, xn]

theorem pay25_eq : k0_pay25 (F := Ideal) g s P (fun i => P i * P i)
    = fun i => lnorm (fun j => gel (P (ix2 (i 0) j))) (fun j => g (ix2 0 j)) (fun j => s (ix2 0 j)) (i 1) := by
  funext i; pointwise [k0_pay25, pay24_eq, lnorm]

theorem pay330_eq : k0_pay330 (F := Ideal) g (k0_pay20 (F := Ideal) P (fun i => P i * P i)) (k0_pay22 (F := Ideal) P (fun i => P i * P i))
    (k0_pay23 (F := Ideal) P (fun i => P i * P i)) D
    = fun i => dxc (fun j => gel (P (ix2 (i 0) j))) (fun j => g (ix2 0 j)) (fun j => D (ix2 (i 0) j)) (i 1) := by
  funext i; pointwise [k0_pay330, k0_pay327, k0_pay22, k0_pay23, pay21_eq, pay20_eq, dxc, dvar]
  simp only [Finset.univ_unique, Finset.sum_singleton]

theorem pay332_eq (X : FVec Ideal S256x2048 .f32) (v : Fin 256 → Fin 2048 → EReal) (gg : Fin 2048 → EReal) (d : Fin 256 → Fin 2048 → EReal)
    (h0 : X = fun i => dxc (v (i 0)) gg (d (i 0)) (i 1)) (Y : FVec Ideal S256x2048 .f32) (h1 : Y = fun i => - dxc (v (i 0)) gg (d (i 0)) (i 1)) :
    k0_pay332 (F := Ideal) P (k0_pay16 (F := Ideal) P) (k0_pay18 (F := Ideal) P (fun i => P i * P i)) (k0_pay19 (F := Ideal) P (fun i => P i * P i)) X Y
    = fun i => dgel (P i) (dln (v (i 0)) gg (d (i 0)) (i 1)) := by
  subst h0 h1
  funext i; pointwise [k0_pay332, k0_pay16, k0_pay18, k0_pay17, pay19_eq, dgel, dth, dln, th]
  simp only [Finset.univ_unique, Finset.sum_singleton]

theorem pay334_eq : k0_pay334 (F := Ideal) (k0_pay8 (F := Ideal) a b) (k0_pay9 (F := Ideal) a b) (k0_pay11 (F := Ideal) a b) (k0_pay12 (F := Ideal) a b) D
    = fun i => dgel (k0_pay8 (F := Ideal) a b i) (D i) := by
  funext i; pointwise [k0_pay334, k0_pay9, k0_pay11, k0_pay12, k0_pay10, dgel, dth, th]

theorem pay6_eq : k0_pay6 (F := Ideal) x3 = x3 := by
  funext i; pointwise [k0_pay6]

/-- The gradient of the gating half's pre-activation, from that of its normalised form. -/
theorem dzv_eq : k0_pay332 (F := Ideal) (k0_pay14 (F := Ideal) (ldv x1) (lbv x2)) (k0_pay16 (F := Ideal) (k0_pay14 (F := Ideal) (ldv x1) (lbv x2)))
    (k0_pay18 (F := Ideal) (k0_pay14 (F := Ideal) (ldv x1) (lbv x2)) (k0_pay15 (F := Ideal) (ldv x1) (lbv x2)))
    (k0_pay19 (F := Ideal) (k0_pay14 (F := Ideal) (ldv x1) (lbv x2)) (k0_pay15 (F := Ideal) (ldv x1) (lbv x2)))
    (k0_pay330 (F := Ideal) (k0_pay6 (F := Ideal) x3) (k0_pay20 (F := Ideal) (k0_pay14 (F := Ideal) (ldv x1) (lbv x2)) (k0_pay15 (F := Ideal) (ldv x1) (lbv x2)))
      (k0_pay22 (F := Ideal) (k0_pay14 (F := Ideal) (ldv x1) (lbv x2)) (k0_pay15 (F := Ideal) (ldv x1) (lbv x2)))
      (k0_pay23 (F := Ideal) (k0_pay14 (F := Ideal) (ldv x1) (lbv x2)) (k0_pay15 (F := Ideal) (ldv x1) (lbv x2)))
      fun y => (blk x0 x1 x2 x3 x4 x5 x6 x7).dvn (y 0) (y 1))
    (k0_pay331 (F := Ideal) (k0_pay6 (F := Ideal) x3) (k0_pay20 (F := Ideal) (k0_pay14 (F := Ideal) (ldv x1) (lbv x2)) (k0_pay15 (F := Ideal) (ldv x1) (lbv x2)))
      (k0_pay22 (F := Ideal) (k0_pay14 (F := Ideal) (ldv x1) (lbv x2)) (k0_pay15 (F := Ideal) (ldv x1) (lbv x2)))
      (k0_pay23 (F := Ideal) (k0_pay14 (F := Ideal) (ldv x1) (lbv x2)) (k0_pay15 (F := Ideal) (ldv x1) (lbv x2)))
      fun y => (blk x0 x1 x2 x3 x4 x5 x6 x7).dvn (y 0) (y 1))
    = fun i => (blk x0 x1 x2 x3 x4 x5 x6 x7).dzv (i 0) (i 1) := by
  rw [pay15_eq, pay14_eq x0 x1 x2 x3 x4 x5 x6 x7]
  refine pay332_eq _ _ (blk x0 x1 x2 x3 x4 x5 x6 x7).v (blk x0 x1 x2 x3 x4 x5 x6 x7).g (blk x0 x1 x2 x3 x4 x5 x6 x7).dvn ?_ _ ?_
  · rw [pay330_eq, pay6_eq]; rfl
  · funext i
    pointwise [k0_pay331, pay330_eq, pay6_eq]
    exact zero_sub _

/-- The gradient of the gated half's pre-activation. -/
theorem dzu_eq : k0_pay334 (F := Ideal) (k0_pay8 (F := Ideal) (ldu x1) (lbu x2)) (k0_pay9 (F := Ideal) (ldu x1) (lbu x2)) (k0_pay11 (F := Ideal) (ldu x1) (lbu x2))
    (k0_pay12 (F := Ideal) (ldu x1) (lbu x2)) (fun y => (blk x0 x1 x2 x3 x4 x5 x6 x7).du (y 0) (y 1))
    = fun i => (blk x0 x1 x2 x3 x4 x5 x6 x7).dzu (i 0) (i 1) := by
  rw [pay334_eq, pay8_eq x0 x1 x2 x3 x4 x5 x6 x7]; rfl

/-- The normalised row before its gain, times the gradient: the gain's gradient. -/
theorem xn_eq : k0_pay24 (F := Ideal) (k0_pay14 (F := Ideal) (ldv x1) (lbv x2)) (k0_pay15 (F := Ideal) (ldv x1) (lbv x2))
    = fun i => xn ((blk x0 x1 x2 x3 x4 x5 x6 x7).v (i 0)) (i 1) := by
  rw [pay15_eq, pay14_eq x0 x1 x2 x3 x4 x5 x6 x7, pay24_eq]; rfl

end Rows

theorem readCov_of (v : View sig .tc .vmem S256x2048 .f32) (L : List (View.Piece (Elt Ideal) S256x2048 .f32)) (inb) (D : Vec Ideal S256x2048 .f32) (h : ∀ y, View.canon L y = D y) :
    v.readCov L (Rect.unit (s := S256x2048) ![0, 0] ![256, 2048] inb).toLoadRect = D := by
  rw [View.readCov_eq_canon']
  funext j
  refine (congrArg (View.canon L) (funext fun a => Fin.ext ?_)).trans (h j)
  have e := Rect.idx_unit_val (s := S256x2048) ![0, 0] ![256, 2048] inb j a
  refine e.trans ?_
  have : (![0, 0] : Fin 2 → ℕ) a = 0 := by fin_cases a <;> rfl
  exact (congrArg (· + (j a).val) this).trans (Nat.zero_add _)

section
variable {x0 : Vec Ideal S256x2048 .bf16} {x1 : Vec Ideal S256x4096 .bf16} {x2 : Vec Ideal S1x4096 .f32} {x3 x4 : Vec Ideal S1x2048 .f32}
  {x5 x6 : Vec Ideal S16x128x128 .bf16} {x7 : Vec Ideal S128x16 .f32}

/-- The normalised gating half's gradient in a tile. -/
theorem dvn_of {U : Vec Ideal S256x2048 .f32} (h : ∀ i, U i = (blk x0 x1 x2 x3 x4 x5 x6 x7).u (i 0) (i 1)) (r : Fin 256) (j : Fin 2048) :
    (blk x0 x1 x2 x3 x4 x5 x6 x7).dvn r j = ∑ s : Fin 128, x6 (ix3 ⟨j.val / 128, by omega⟩ ⟨r.val % 128, by omega⟩ s)
      * (x0 (ix2 ⟨128 * (r.val / 128) + s.val, by omega⟩ j) * U (ix2 ⟨128 * (r.val / 128) + s.val, by omega⟩ j)) := by
  simp only [h]; rfl

/-- The gated half's gradient in a tile. -/
theorem du_of {N : Vec Ideal S256x2048 .bf16} (h : ∀ i, N i = (blk x0 x1 x2 x3 x4 x5 x6 x7).vn (i 0) (i 1)) (r : Fin 256) (j : Fin 2048) :
    (blk x0 x1 x2 x3 x4 x5 x6 x7).du r j = x0 (ix2 r j) * ((∑ s : Fin 128, x5 (ix3 ⟨j.val / 128, by omega⟩ ⟨r.val % 128, by omega⟩ s)
      * N (ix2 ⟨128 * (r.val / 128) + s.val, by omega⟩ j)) + x7 (ix2 ⟨r.val % 128, by omega⟩ ⟨j.val / 128, by omega⟩)) := by
  simp only [h]; rfl

/-- The tokens of a grid point's two chunks. -/
def rows (c : Fin 2) (a : Fin 128) : Fin 256 := ⟨128 * c.val + a.val, by omega⟩

/-- A tile's part of the mixing weights' gradient. -/
theorem wsum_of {U : Vec Ideal S256x2048 .f32} (hU : ∀ i, U i = (blk x0 x1 x2 x3 x4 x5 x6 x7).u (i 0) (i 1))
    {N : Vec Ideal S256x2048 .bf16} (hN : ∀ i, N i = (blk x0 x1 x2 x3 x4 x5 x6 x7).vn (i 0) (i 1)) (g : Fin 16) (a b : Fin 128) :
    (blk x0 x1 x2 x3 x4 x5 x6 x7).wsum rows g a b
      = (∑ k : Fin 128, x0 (ix2 ⟨a.val, by omega⟩ ⟨128 * g.val + k.val, by omega⟩) * U (ix2 ⟨a.val, by omega⟩ ⟨128 * g.val + k.val, by omega⟩)
          * N (ix2 ⟨b.val, by omega⟩ ⟨128 * g.val + k.val, by omega⟩))
        + ∑ k : Fin 128, x0 (ix2 ⟨128 + a.val, by omega⟩ ⟨128 * g.val + k.val, by omega⟩) * U (ix2 ⟨128 + a.val, by omega⟩ ⟨128 * g.val + k.val, by omega⟩)
          * N (ix2 ⟨128 + b.val, by omega⟩ ⟨128 * g.val + k.val, by omega⟩) := by
  unfold Inp.wsum
  rw [Fin.sum_univ_two]
  simp only [hU, hN]
  have e0 : ∀ a, rows 0 a = ⟨a.val, by omega⟩ := fun a => Fin.ext (by simp [rows])
  have e1 : ∀ a, rows 1 a = ⟨128 + a.val, by omega⟩ := fun a => Fin.ext (by simp [rows])
  simp only [e0, e1]
  rfl

/-- A tile's part of the mixing shifts' gradient. -/
theorem bsum_of {U : Vec Ideal S256x2048 .f32} (hU : ∀ i, U i = (blk x0 x1 x2 x3 x4 x5 x6 x7).u (i 0) (i 1)) (a : Fin 128) (g : Fin 16) :
    (blk x0 x1 x2 x3 x4 x5 x6 x7).bsum rows a g
      = (∑ k : Fin 128, x0 (ix2 ⟨a.val, by omega⟩ ⟨128 * g.val + k.val, by omega⟩) * U (ix2 ⟨a.val, by omega⟩ ⟨128 * g.val + k.val, by omega⟩))
        + ∑ k : Fin 128, x0 (ix2 ⟨128 + a.val, by omega⟩ ⟨128 * g.val + k.val, by omega⟩) * U (ix2 ⟨128 + a.val, by omega⟩ ⟨128 * g.val + k.val, by omega⟩) := by
  unfold Inp.bsum
  rw [Fin.sum_univ_two]
  simp only [hU]
  have e0 : rows 0 a = ⟨a.val, by omega⟩ := Fin.ext (by simp [rows])
  have e1 : rows 1 a = ⟨128 + a.val, by omega⟩ := Fin.ext (by simp [rows])
  simp only [e0, e1]
  rfl
end

section
variable (x0 : Vec Ideal S256x2048 .bf16) (x1 : Vec Ideal S256x4096 .bf16) (x2 : Vec Ideal S1x4096 .f32) (x3 x4 : Vec Ideal S1x2048 .f32)
  (x5 x6 : Vec Ideal S16x128x128 .bf16) (x7 : Vec Ideal S128x16 .f32)

theorem U_at (i : S256x2048.Idx) : k0_pay13 (F := Ideal) (ldu x1) (lbu x2) i = (blk x0 x1 x2 x3 x4 x5 x6 x7).u (i 0) (i 1) := by
  rw [pay13_eq, pay8_eq x0 x1 x2 x3 x4 x5 x6 x7]; rfl

theorem N_at (i : S256x2048.Idx) : k0_pay25 (F := Ideal) (k0_pay6 (F := Ideal) x3) (k0_pay7 (F := Ideal) x4) (k0_pay14 (F := Ideal) (ldv x1) (lbv x2)) (k0_pay15 (F := Ideal) (ldv x1) (lbv x2)) i
    = (blk x0 x1 x2 x3 x4 x5 x6 x7).vn (i 0) (i 1) := by
  rw [pay15_eq, pay14_eq x0 x1 x2 x3 x4 x5 x6 x7, pay25_eq]
  pointwise [k0_pay6, k0_pay7]
  rfl
end

/-- Where later stores cover, an earlier one is not read. -/
theorem canon_append_of_cover {S : Shape} {e : EltTy} (L' : List (View.Piece (Elt Ideal) S e)) : ∀ (L : List (View.Piece (Elt Ideal) S e)) (y : S.Idx),
    (∃ p ∈ L, y ∈ p.1.set) → View.canon (L ++ L') y = View.canon L y
  | [], _, hy => by obtain ⟨p, hp, _⟩ := hy; simp at hp
  | p :: L, y, hy => by
    by_cases hm : y ∈ p.1.set
    · obtain ⟨x, rfl⟩ := p.1.exists_idx_of_mem hm
      exact (View.canon_cons_emb p.1 p.2 (L ++ L') x).trans (View.canon_cons_emb p.1 p.2 L x).symm
    · rw [List.cons_append, View.canon_cons_of_not_mem _ _ hm, View.canon_cons_of_not_mem _ _ hm]
      obtain ⟨q, hq, hyq⟩ := hy
      rcases List.mem_cons.mp hq with rfl | hq'
      · exact absurd hyq hm
      · exact canon_append_of_cover L' L y ⟨q, hq', hyq⟩

/-- The first store of all, under stores that tile the buffer, is not read. -/
theorem canon_dropLast {S : Shape} {e : EltTy} (L : List (View.Piece (Elt Ideal) S e)) (sz : Fin S.rank → ℕ) (y : S.Idx) (hL : L ≠ [])
    (h : View.Piece.tiled L.dropLast sz = true) : View.canon L y = View.canon L.dropLast y := by
  conv_lhs => rw [← List.dropLast_concat_getLast hL]
  exact canon_append_of_cover _ _ y (View.cover_of_tiled _ sz h y)

/-- A choice by lane: where the lane is `n` the first value, elsewhere the second. -/
theorem select_lane {l n : ℕ} {a b r : EReal} (hl : l < 16) (hn : n < 16) (h : l = n → a = r) (h' : ¬ l = n → b = r) :
    Scalar.select (IntOp.cmpi CmpIPredicate.eq (BitVec.ofNat 32 l) (BitVec.ofNat 32 n)) a b = r := by
  by_cases e : l = n
  · subst e
    simpa [Scalar.select, IntOp.cmpi] using h rfl
  · have e' : (BitVec.ofNat 32 l == BitVec.ofNat 32 n) = false := beq_false_of_ne fun q => e (by
      have := congrArg BitVec.toNat q
      simp only [BitVec.toNat_ofNat] at this
      omega)
    simpa [Scalar.select, IntOp.cmpi, e'] using h' e

variable (m : (ℓ : Loc nD τ sig) → Buf (Elt Ideal) ℓ)

/-- What grid point `t` reads, as the gradient's input. -/
def ptI (c : Dev nD) (t : Fin cfg0.N) : Inp (Fin 256) :=
  blk (iblk m c 0 t) (iblk m c 1 t) (iblk m c 2 t) (iblk m c 3 t) (iblk m c 4 t) (iblk m c 5 t) (iblk m c 6 t) (iblk m c 7 t)

end Cert.GmlpTiles
end
-- ==== Proof.GmlpFirst.lean ====
module

public import proofs.«01_k».proof.Proof.GmlpTiles

@[expose] public section

set_option maxRecDepth 16384
set_option maxHeartbeats 4000000

noncomputable section

namespace Cert.GmlpFirst

open Cert.Kernel2Ideal Cert.Kernel2Ideal.Gen Idealize.ShloMosaic Idealize.ShloMosaic.TcCoe Idealize.SL.Sem
open Cert.GmlpMath Cert.GmlpTiles

variable (m : (ℓ : Loc nD τ sig) → Buf (Elt Ideal) ℓ)

/-- At the first grid point: the gradient of its 256 tokens, and the parameters' gradients' sums over those tokens alone. -/
theorem outs_A (c : Dev nD) (t : Fin cfg0.N) (h0 : t.val % 32 = 0) (h2 : ¬ 1 ≤ t.val) :
    outsAt0 m c t.val t.isLt =
      (fun j => (ptI m c t).dz (j 0) (j 1),
       fun j => ∑ r, (ptI m c t).dz r (j 1),
       fun j => ∑ r, (ptI m c t).dg r (j 1),
       fun j => ∑ r, (ptI m c t).dvn r (j 1),
       fun j => (ptI m c t).wsum rows (j 0) (j 1) (j 2),
       fun j => (ptI m c t).bsum rows (j 0) (j 1)) := by
  unfold ptI
  rw [outsAt0_A m c t h0 h0 h2]
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  have hU' := U_at x0 x1 x2 x3 x4 x5 x6 x7
  have hN' := N_at x0 x1 x2 x3 x4 x5 x6 x7
  obtain ⟨U, hU⟩ : ∃ U, k0_pay13 (F := Ideal) (ldu x1) (lbu x2) = U := ⟨_, rfl⟩
  obtain ⟨N, hN⟩ : ∃ N, k0_pay25 (F := Ideal) (k0_pay6 (F := Ideal) x3) (k0_pay7 (F := Ideal) x4) (k0_pay14 (F := Ideal) (ldv x1) (lbv x2)) (k0_pay15 (F := Ideal) (ldv x1) (lbv x2)) = N := ⟨_, rfl⟩
  rw [hU] at hU'
  rw [hN] at hN'
  frame_open
  simp (disch := decide) only [↓ View.readCov_skip, ↓ View.readCov_cons_toLoadRect, ↓ View.readCov_fill]
  frame_out
  rw [readCov_of _ _ _ (fun y => (blk x0 x1 x2 x3 x4 x5 x6 x7).dvn (y 0) (y 1))]
  rw [readCov_of _ _ _ (fun y => (blk x0 x1 x2 x3 x4 x5 x6 x7).du (y 0) (y 1))]
  · refine congr (congrArg Prod.mk (funext fun j => ?_)) (congr (congrArg Prod.mk (funext fun j => ?_)) (congr (congrArg Prod.mk (funext fun j => ?_))
      (congr (congrArg Prod.mk (funext fun j => ?_)) (congr (congrArg Prod.mk (funext fun j => ?_)) (funext fun j => ?_)))))
    · canon_tiles x h
      · unfold k0_pay337
        rw [dzv_eq]
        refine Eq.trans ?_ (Inp.dz_hi _ _ _ (x 1) h1).symm
        pointwise []
        exact congrArg (Inp.dzv _ · _) (Fin.ext h0.symm)
      · unfold k0_pay336
        rw [dzu_eq]
        refine Eq.trans ?_ (Inp.dz_lo _ _ _ (x 1) h1).symm
        pointwise []
        exact congrArg (Inp.dzu _ · _) (Fin.ext h0.symm)
    · canon_tiles x h
      · unfold k0_pay333
        rw [dzv_eq]
        refine Eq.trans ?_ ((Finset.sum_congr rfl fun r _ => (Inp.dz_hi _ r _ (x 1) h1).symm))
        pointwise []
      · unfold k0_pay335
        rw [dzu_eq]
        refine Eq.trans ?_ ((Finset.sum_congr rfl fun r _ => (Inp.dz_lo _ r _ (x 1) h1).symm))
        pointwise []
    · rw [xn_eq x0 x1 x2 x3 x4 x5 x6 x7]
      pointwise [k0_pay329, k0_pay327]
      rfl
    · pointwise [k0_pay328, k0_pay327]
    · refine Eq.trans ?_ ((wsum_of hU' hN' _ _ _).symm)
      rw [canon_dropLast _ ![1, 128, 128] _ (List.cons_ne_nil _ _) rfl]
      dsimp only [List.dropLast]
      canon_tiles x h
      all_goals
        simp only [hU, hN]
        open_payloads
        pointwise []
        blk_point []
    · refine Eq.trans ?_ ((bsum_of hU' _ _).symm)
      simp only [hU]
      open_payloads
      pointwise []
      iterate 16
        refine select_lane (j 1).isLt (by decide) (fun hg => ?_) (fun hg => ?_)
        rotate_left 1
      · omega
      all_goals blk_point []
  · intro y
    refine Eq.trans ?_ (du_of hN' _ _).symm
    canon_tiles x h
    all_goals
      try simp only [hN]
      open_payloads
      pointwise []
      blk_point []
  · intro y
    refine Eq.trans ?_ (dvn_of hU' _ _).symm
    canon_tiles x h
    all_goals
      try simp only [hU]
      open_payloads
      pointwise []
      blk_point []

end Cert.GmlpFirst
end
-- ==== Proof.GmlpNext.lean ====
module

public import proofs.«01_k».proof.Proof.GmlpTiles

@[expose] public section

set_option maxRecDepth 16384
set_option maxHeartbeats 4000000

noncomputable section

namespace Cert.GmlpNext

open Cert.Kernel2Ideal Cert.Kernel2Ideal.Gen Idealize.ShloMosaic Idealize.ShloMosaic.TcCoe Idealize.SL.Sem
open Cert.GmlpMath Cert.GmlpTiles

variable (m : (ℓ : Loc nD τ sig) → Buf (Elt Ideal) ℓ)

/-- At a later grid point: the gradient of its 256 tokens, and each running sum of the parameters' gradients carried one point further. -/
theorem outs_B (c : Dev nD) (t : Fin cfg0.N) (h0 : ¬ t.val % 32 = 0) (h2 : 1 ≤ t.val) (O) (hO : outsAt0 m c (t.val - 1) (Nat.lt_of_le_of_lt (Nat.sub_le _ _) t.isLt) = O) :
    outsAt0 m c t.val t.isLt =
      (fun j => (ptI m c t).dz (j 0) (j 1),
       fun j => O.2.1 j + ∑ r, (ptI m c t).dz r (j 1),
       fun j => O.2.2.1 j + ∑ r, (ptI m c t).dg r (j 1),
       fun j => O.2.2.2.1 j + ∑ r, (ptI m c t).dvn r (j 1),
       fun j => O.2.2.2.2.1 j + (ptI m c t).wsum rows (j 0) (j 1) (j 2),
       fun j => O.2.2.2.2.2 j + (ptI m c t).bsum rows (j 0) (j 1)) := by
  unfold ptI
  rw [outsAt0_B m c t h0 h0 h2, hO]
  generalize iblk m c 0 t = x0
  generalize iblk m c 1 t = x1
  generalize iblk m c 2 t = x2
  generalize iblk m c 3 t = x3
  generalize iblk m c 4 t = x4
  generalize iblk m c 5 t = x5
  generalize iblk m c 6 t = x6
  generalize iblk m c 7 t = x7
  have hU' := U_at x0 x1 x2 x3 x4 x5 x6 x7
  have hN' := N_at x0 x1 x2 x3 x4 x5 x6 x7
  obtain ⟨U, hU⟩ : ∃ U, k0_pay13 (F := Ideal) (ldu x1) (lbu x2) = U := ⟨_, rfl⟩
  obtain ⟨N, hN⟩ : ∃ N, k0_pay25 (F := Ideal) (k0_pay6 (F := Ideal) x3) (k0_pay7 (F := Ideal) x4) (k0_pay14 (F := Ideal) (ldv x1) (lbv x2)) (k0_pay15 (F := Ideal) (ldv x1) (lbv x2)) = N := ⟨_, rfl⟩
  rw [hU] at hU'
  rw [hN] at hN'
  frame_out
  rw [readCov_of _ _ _ (fun y => (blk x0 x1 x2 x3 x4 x5 x6 x7).dvn (y 0) (y 1))]
  rw [readCov_of _ _ _ (fun y => (blk x0 x1 x2 x3 x4 x5 x6 x7).du (y 0) (y 1))]
  · refine congr (congrArg Prod.mk (funext fun j => ?_)) (congr (congrArg Prod.mk (funext fun j => ?_)) (congr (congrArg Prod.mk (funext fun j => ?_))
      (congr (congrArg Prod.mk (funext fun j => ?_)) (congr (congrArg Prod.mk (funext fun j => ?_)) (funext fun j => ?_)))))
    · canon_tiles x h
      · unfold k0_pay337
        rw [dzv_eq]
        refine Eq.trans ?_ (Inp.dz_hi _ _ _ (x 1) h1).symm
        pointwise []
        exact congrArg (Inp.dzv _ · _) (Fin.ext h0.symm)
      · unfold k0_pay336
        rw [dzu_eq]
        refine Eq.trans ?_ (Inp.dz_lo _ _ _ (x 1) h1).symm
        pointwise []
        exact congrArg (Inp.dzu _ · _) (Fin.ext h0.symm)
    · canon_tiles x h
      · unfold k0_pay2 k0_pay333
        rw [dzv_eq]
        refine Eq.trans ?_ (congrArg (O.2.1 j + ·) (Finset.sum_congr rfl fun r _ => (Inp.dz_hi _ r _ (x 1) h1).symm))
        pointwise []
        blk_point []
      · unfold k0_pay1 k0_pay335
        rw [dzu_eq]
        refine Eq.trans ?_ (congrArg (O.2.1 j + ·) (Finset.sum_congr rfl fun r _ => (Inp.dz_lo _ r _ (x 1) h1).symm))
        pointwise []
        blk_point []
    · rw [xn_eq x0 x1 x2 x3 x4 x5 x6 x7]
      pointwise [k0_pay3, k0_pay329, k0_pay327]
      rfl
    · pointwise [k0_pay4, k0_pay328, k0_pay327]
    · refine Eq.trans ?_ (congrArg (O.2.2.2.2.1 j + ·) (wsum_of hU' hN' _ _ _).symm)
      canon_tiles x h
      all_goals
        simp only [hU, hN]
        open_payloads
        pointwise []
        blk_point []
    · refine Eq.trans ?_ (congrArg (O.2.2.2.2.2 j + ·) (bsum_of hU' _ _).symm)
      simp only [hU]
      open_payloads
      pointwise []
      refine congrArg (O.2.2.2.2.2 j + ·) ?_
      iterate 16
        refine select_lane (j 1).isLt (by decide) (fun hg => ?_) (fun hg => ?_)
        rotate_left 1
      · omega
      all_goals blk_point []
  · intro y
    refine Eq.trans ?_ (du_of hN' _ _).symm
    canon_tiles x h
    all_goals
      try simp only [hN]
      open_payloads
      pointwise []
      blk_point []
  · intro y
    refine Eq.trans ?_ (dvn_of hU' _ _).symm
    canon_tiles x h
    all_goals
      try simp only [hU]
      open_payloads
      pointwise []
      blk_point []

end Cert.GmlpNext
end
-- ==== Proof.GmlpInput.lean ====
module

public import proofs.«01_k».proof.Proof.GmlpTiles
public import proofs.«01_k».proof.Proof.Gen.Reference2Ideal.Read

@[expose] public section

set_option maxRecDepth 16384
set_option maxHeartbeats 1000000

noncomputable section

namespace Cert.GmlpInput

open Cert.Kernel2Ideal Cert.Kernel2Ideal.Gen Idealize.ShloMosaic Idealize.ShloMosaic.TcCoe Idealize.SL.Sem
open Cert.GmlpMath Cert.GmlpTiles
open Cert.Reference2Ideal.Read

/-- The gradient's input from the arguments: 8192 tokens in chunks of 128, the mixing weights below the diagonal. -/
def inp (x0 : (⟨S8192x2048, .f32⟩ : BufTy).Contents (Elt Ideal)) (x1 : (⟨S8192x4096, .f32⟩ : BufTy).Contents (Elt Ideal))
    (x2 : (⟨S4096, .f32⟩ : BufTy).Contents (Elt Ideal)) (x3 x4 : (⟨S2048, .f32⟩ : BufTy).Contents (Elt Ideal))
    (x5 : (⟨S16x128x128, .f32⟩ : BufTy).Contents (Elt Ideal)) (x6 : (⟨S16x128, .f32⟩ : BufTy).Contents (Elt Ideal)) : Inp (Fin 8192) where
  ch r k := ⟨128 * (r.val / 128) + k.val, by omega⟩
  tk r := ⟨r.val % 128, by omega⟩
  dy r j := x0 (ix2 r j)
  pu r j := x1 (ix2 r ⟨j.val, by omega⟩) + x2 (ix1 ⟨j.val, by omega⟩)
  pv r j := x1 (ix2 r ⟨2048 + j.val, by omega⟩) + x2 (ix1 ⟨2048 + j.val, by omega⟩)
  g j := x3 (ix1 j)
  b j := x4 (ix1 j)
  ws g a b := val_main_v4 (F := Ideal) x5 (ix3 g a b)
  wt g a b := val_main_v4 (F := Ideal) x5 (ix3 g b a)
  bs a g := x6 (ix2 g a)

/-- The windows' block indices at a point: the token blocks follow the point, everything else is one block. -/
theorem idx : ∀ t : Fin cfg0.N, win0_0.index t = ![t.val, 0] ∧ win0_1.index t = ![t.val, 0] ∧ win0_2.index t = ![0, 0]
    ∧ win0_3.index t = ![0, 0] ∧ win0_4.index t = ![0, 0] ∧ win0_5.index t = ![0, 0, 0] ∧ win0_6.index t = ![0, 0, 0]
    ∧ win0_7.index t = ![0, 0] ∧ win0_8.index t = ![t.val, 0] ∧ win0_9.index t = ![0, 0] ∧ win0_10.index t = ![0, 0]
    ∧ win0_11.index t = ![0, 0] ∧ win0_12.index t = ![0, 0, 0] ∧ win0_13.index t = ![0, 0] :=
  (by decide +kernel : ∀ t : Fin grid0.N, _)

variable (m : (ℓ : Loc nD τ sig) → Buf (Elt Ideal) ℓ)

/-- The arguments at launch, as the gradient's input. -/
def argI (c : Dev nD) : Inp (Fin 8192) :=
  inp (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6))

/-- Token `r` of grid point `t`. -/
def row (t : Fin 32) (r : Fin 256) : Fin 8192 := ⟨256 * t.val + r.val, by omega⟩

/-- A bias row as the kernel receives it. -/
theorem row4096 (x : (⟨S4096, .f32⟩ : BufTy).Contents (Elt Ideal)) (j : Fin 4096) :
    shapeCast S1x4096 x shapeCasts_S4096_S1x4096 (ix2 0 j) = x (ix1 j) := by
  pointwise []
theorem row2048 (x : (⟨S2048, .f32⟩ : BufTy).Contents (Elt Ideal)) (j : Fin 2048) :
    shapeCast S1x2048 x shapeCasts_S2048_S1x2048 (ix2 0 j) = x (ix1 j) := by
  pointwise []

/-- The mixing weights of a group, and the table of shifts, transposed. -/
theorem swap_at (x : (⟨S16x128x128, .f32⟩ : BufTy).Contents (Elt Ideal)) (g : Fin 16) (a b : Fin 128) :
    transpose S16x128x128 [0, 2, 1] x transposes_S16x128x128_S16x128x128_0_2_1 (ix3 g a b) = x (ix3 g b a) := by
  pointwise []
theorem turn_at (x : (⟨S16x128, .f32⟩ : BufTy).Contents (Elt Ideal)) (a : Fin 128) (g : Fin 16) :
    transpose S128x16 [1, 0] x transposes_S16x128_S128x16_1_0 (ix2 a g) = x (ix2 g a) := by
  pointwise []

/-! ## What the host hands the kernel -/

theorem v7_at (c : Dev nD) : V m c main_v7 = m ((c.tc : Thread nD τ).loc main_arg1) := rfl
theorem v8_at (c : Dev nD) (j : Fin 4096) : V m c main_v8 (ix2 0 j) = m ((c.tc : Thread nD τ).loc main_arg2) (ix1 j) :=
  (congrFun (rfl : V m c main_v8 = shapeCast S1x4096 (m ((c.tc : Thread nD τ).loc main_arg2)) shapeCasts_S4096_S1x4096) _).trans (row4096 _ j)
theorem v9_at (c : Dev nD) (j : Fin 2048) : V m c main_v9 (ix2 0 j) = m ((c.tc : Thread nD τ).loc main_arg3) (ix1 j) :=
  (congrFun (rfl : V m c main_v9 = shapeCast S1x2048 (m ((c.tc : Thread nD τ).loc main_arg3)) shapeCasts_S2048_S1x2048) _).trans (row2048 _ j)
theorem v10_at (c : Dev nD) (j : Fin 2048) : V m c main_v10 (ix2 0 j) = m ((c.tc : Thread nD τ).loc main_arg4) (ix1 j) :=
  (congrFun (rfl : V m c main_v10 = shapeCast S1x2048 (m ((c.tc : Thread nD τ).loc main_arg4)) shapeCasts_S2048_S1x2048) _).trans (row2048 _ j)
theorem v5_at (c : Dev nD) : V m c main_v5 = val_main_v4 (F := Ideal) (m ((c.tc : Thread nD τ).loc main_arg5)) := rfl
theorem v11_at (c : Dev nD) (g : Fin 16) (a b : Fin 128) :
    V m c main_v11 (ix3 g a b) = val_main_v4 (F := Ideal) (m ((c.tc : Thread nD τ).loc main_arg5)) (ix3 g b a) := by
  exact (congrFun (rfl : V m c main_v11 = transpose S16x128x128 [0, 2, 1] (val_main_v4 (F := Ideal) (m ((c.tc : Thread nD τ).loc main_arg5)))
    transposes_S16x128x128_S16x128x128_0_2_1) _).trans (swap_at (val_main_v4 (F := Ideal) (m ((c.tc : Thread nD τ).loc main_arg5))) g a b)
theorem v12_at (c : Dev nD) (a : Fin 128) (g : Fin 16) : V m c main_v12 (ix2 a g) = m ((c.tc : Thread nD τ).loc main_arg6) (ix2 g a) := by
  exact (congrFun (rfl : V m c main_v12 = transpose S128x16 [1, 0] (m ((c.tc : Thread nD τ).loc main_arg6)) transposes_S16x128_S128x16_1_0) _).trans
    (turn_at _ a g)

/-- The tile of the projected input and the whole bias row, as a grid point reads them. -/
theorem z_at (c : Dev nD) (t : Fin cfg0.N) (r : Fin 256) (j : Fin 4096) :
    iblk m c 1 t (ix2 r j) = m ((c.tc : Thread nD τ).loc main_arg1) (ix2 (row t r) j) := by
  rw [← v7_at m c]
  blk_ext [iblk, V, idx t]
  dsimp only [row]
  omega
theorem p_at (c : Dev nD) (t : Fin cfg0.N) (j : Fin 4096) :
    iblk m c 2 t (ix2 0 j) = m ((c.tc : Thread nD τ).loc main_arg2) (ix1 j) := by
  refine Eq.trans ?_ (v8_at m c j)
  blk_ext [iblk, V, idx t]

/-- What a grid point reads is the arguments at its 256 tokens. -/
theorem pt_eq (c : Dev nD) (t : Fin cfg0.N) : ptI m c t = (argI m c).pull (row t) fun r k => ⟨128 * (r.val / 128) + k.val, by omega⟩ := by
  unfold ptI blk Inp.pull argI inp row
  have htk : (fun r : Fin 256 => (⟨r.val % 128, by omega⟩ : Fin 128)) = fun r => ⟨(256 * t.val + r.val) % 128, by omega⟩ := by
    funext r; exact Fin.ext (by dsimp only; omega)
  rw [htk]
  congr 1
  · funext r j
    blk_point [iblk, V, idx t]
  · funext r j
    refine Eq.trans (congr (congrArg HAdd.hAdd (z_at m c t r ⟨j.val, by omega⟩)) (p_at m c t ⟨j.val, by omega⟩)) ?_
    dsimp only [row]
  · funext r j
    refine Eq.trans (congr (congrArg HAdd.hAdd (z_at m c t r ⟨2048 + j.val, by omega⟩)) (p_at m c t ⟨2048 + j.val, by omega⟩)) ?_
    dsimp only [row]
  · funext j
    refine Eq.trans ?_ (v9_at m c j)
    blk_ext [iblk, V, idx t]
  · funext j
    refine Eq.trans ?_ (v10_at m c j)
    blk_ext [iblk, V, idx t]
  · funext g a b
    blk_point [iblk, V, idx t]
  · funext g a b
    refine Eq.trans ?_ (v11_at m c g a b)
    blk_ext [iblk, V, idx t]
  · funext a g
    refine Eq.trans ?_ (v12_at m c a g)
    blk_ext [iblk, V, idx t]

end Cert.GmlpInput
end
-- ==== Proof.GmlpSums.lean ====
module

public import proofs.«01_k».proof.Proof.GmlpFirst
public import proofs.«01_k».proof.Proof.GmlpNext
public import proofs.«01_k».proof.Proof.GmlpInput

@[expose] public section

set_option maxRecDepth 16384
set_option maxHeartbeats 1000000

noncomputable section

namespace Cert.GmlpSums

open Cert.Kernel2Ideal Cert.Kernel2Ideal.Gen Idealize.ShloMosaic Idealize.ShloMosaic.TcCoe Idealize.SL.Sem
open Cert.GmlpMath Cert.GmlpTiles Cert.GmlpInput

variable (m : (ℓ : Loc nD τ sig) → Buf (Elt Ideal) ℓ)

/-! ## A point's sums are the arguments' sums over the point's tokens -/

/-- A token of a point and its chunk. -/
theorem row_ch (t : Fin 32) (r : Fin 256) (k : Fin 128) :
    row t ⟨128 * (r.val / 128) + k.val, by omega⟩ = ⟨128 * ((row t r).val / 128) + k.val, by omega⟩ :=
  Fin.ext (by dsimp only [row]; omega)

theorem dz_pt (c : Dev nD) (t : Fin cfg0.N) (r : Fin 256) (q : Fin 4096) : (ptI m c t).dz r q = (argI m c).dz (row t r) q := by
  rw [pt_eq]
  exact (argI m c).pull_dz _ _ (row_ch t) r q

theorem dg_pt (c : Dev nD) (t : Fin cfg0.N) (r : Fin 256) (j : Fin 2048) : (ptI m c t).dg r j = (argI m c).dg (row t r) j := by
  rw [pt_eq]
  exact (argI m c).pull_dg _ _ (row_ch t) r j

theorem dvn_pt (c : Dev nD) (t : Fin cfg0.N) (r : Fin 256) (j : Fin 2048) : (ptI m c t).dvn r j = (argI m c).dvn (row t r) j := by
  rw [pt_eq]
  exact (argI m c).pull_dvn _ _ (row_ch t) r j

/-- Token `a` of chunk `s`. -/
def tok (s : Fin 64) (a : Fin 128) : Fin 8192 := ⟨128 * s.val + a.val, by omega⟩

theorem wsum_pt (c : Dev nD) (t : Fin cfg0.N) (g : Fin 16) (a b : Fin 128) :
    (ptI m c t).wsum rows g a b = (argI m c).wsum (fun s a => row t (rows s a)) g a b := by
  rw [pt_eq]
  rfl

theorem bsum_pt (c : Dev nD) (t : Fin cfg0.N) (a : Fin 128) (g : Fin 16) :
    (ptI m c t).bsum rows a g = (argI m c).bsum (fun s a => row t (rows s a)) a g := by
  rw [pt_eq]
  rfl

/-- The points' tokens together are all tokens. -/
theorem sum_rows (f : Fin 8192 → EReal) : ∑ t : Fin 32, ∑ r : Fin 256, f (row t r) = ∑ r, f r :=
  Fin.sum_mul_add_congr fun t r _ => congrArg f (Fin.ext (by dsimp only [row]; omega))

/-- The points' chunks together are all chunks. -/
theorem sum_chunks (f : (Fin 128 → Fin 8192) → EReal) : ∑ t : Fin 32, ∑ s : Fin 2, f (fun a => row t (rows s a)) = ∑ s, f (tok s) :=
  Fin.sum_mul_add_congr fun t s _ => congrArg f (funext fun a => Fin.ext (by dsimp only [row, rows, tok]; omega))

/-! ## The result arrays -/

theorem first_pt (t : Fin 32) (h : t.val % 32 = 0) : ¬ 1 ≤ t.val := by omega
theorem next_pt (t : Fin 32) (h : ¬ t.val % 32 = 0) : 1 ≤ t.val := by omega

/-- The last point of the grid. -/
def tL : Fin cfg0.N := ⟨31, by decide⟩

/-- The gradient of the projected input. -/
theorem final_dz (c : Dev nD) : (dats m 0 c).arrAt 8 cfg0.N = fun j : S8192x4096.Idx => (argI m c).dz (j 0) (j 1) := by
  refine (dats m 0 c).arrAt_eq_of_covers 8 _ (by decide +kernel) fun t hf y => ?_
  have e0 : (((cfg0.win 8).blk t).view.emb y) 0 = row t (y 0) := by
    refine Fin.ext ?_
    blk_simp [idx t]
    dsimp only [row]
    omega
  have e1 : (((cfg0.win 8).blk t).view.emb y) 1 = y 1 := by
    refine Fin.ext ?_
    blk_simp [idx t]
  rw [after0_8]
  have e : (outsAt0 m c t.val t.isLt).1 = fun j => (ptI m c t).dz (j 0) (j 1) := by
    by_cases h : t.val % 32 = 0
    · rw [GmlpFirst.outs_A m c t h (first_pt t h)]
    · rw [GmlpNext.outs_B m c t h (next_pt t h) _ rfl]
  rw [e]
  exact (dz_pt m c t (y 0) (y 1)).trans (congr (congrArg (argI m c).dz e0.symm) e1.symm)

/-- A component that the first point writes and every later point adds to ends holding the points' sum. -/
theorem total {α ι : Type} (f : (n : ℕ) → n < cfg0.N → α) (p : α → ι → EReal) (term : Fin cfg0.N → ι → EReal)
    (h0 : ∀ t : Fin cfg0.N, t.val % 32 = 0 → ∀ i, p (f t.val t.isLt) i = term t i)
    (hs : ∀ t : Fin cfg0.N, ¬t.val % 32 = 0 → ∀ i,
      p (f t.val t.isLt) i = p (f (t.val - 1) (Nat.lt_of_le_of_lt (Nat.sub_le _ _) t.isLt)) i + term t i)
    (t : Fin cfg0.N) (ht : t.val + 1 = cfg0.N) (i : ι) : p (f t.val t.isLt) i = ∑ t : Fin cfg0.N, term t i := by
  refine (Pipeline.eq_sum_fin_of_reset_step_apply_last (fun n h => p (f n h)) 32 (fun _ => 0) term (fun t h i => ?_) hs (by decide) t ht i).trans
    (zero_add _)
  rw [zero_add]
  exact h0 t h i

/-- What is left for the gradient of the bias before the activation after the last point. -/
theorem last_dbin (c : Dev nD) (t : Fin cfg0.N) (ht : t.val + 1 = cfg0.N) (j : S1x4096.Idx) :
    (outsAt0 m c t.val t.isLt).2.1 j = ∑ r, (argI m c).dz r (j 1) := by
  refine (total (outsAt0 m c) (fun o => o.2.1) (fun t j => ∑ r, (ptI m c t).dz r (j 1))
    (fun t h j => congrFun (congrArg (fun o => o.2.1) (GmlpFirst.outs_A m c t h (first_pt t h))) j)
    (fun t h j => congrFun (congrArg (fun o => o.2.1) (GmlpNext.outs_B m c t h (next_pt t h) _ rfl)) j) t ht j).trans ?_
  exact (Fin.sum_fin_congr fun t => Fin.sum_fin_congr fun r => dz_pt m c t r _).trans (sum_rows fun r => (argI m c).dz r (j 1))

/-- What is left for the gradient of the normalisation's gain after the last point. -/
theorem last_dg (c : Dev nD) (t : Fin cfg0.N) (ht : t.val + 1 = cfg0.N) (j : S1x2048.Idx) :
    (outsAt0 m c t.val t.isLt).2.2.1 j = ∑ r, (argI m c).dg r (j 1) := by
  refine (total (outsAt0 m c) (fun o => o.2.2.1) (fun t j => ∑ r, (ptI m c t).dg r (j 1))
    (fun t h j => congrFun (congrArg (fun o => o.2.2.1) (GmlpFirst.outs_A m c t h (first_pt t h))) j)
    (fun t h j => congrFun (congrArg (fun o => o.2.2.1) (GmlpNext.outs_B m c t h (next_pt t h) _ rfl)) j) t ht j).trans ?_
  exact (Fin.sum_fin_congr fun t => Fin.sum_fin_congr fun r => dg_pt m c t r _).trans (sum_rows fun r => (argI m c).dg r (j 1))

/-- What is left for the gradient of the normalisation's shift after the last point. -/
theorem last_db (c : Dev nD) (t : Fin cfg0.N) (ht : t.val + 1 = cfg0.N) (j : S1x2048.Idx) :
    (outsAt0 m c t.val t.isLt).2.2.2.1 j = ∑ r, (argI m c).dvn r (j 1) := by
  refine (total (outsAt0 m c) (fun o => o.2.2.2.1) (fun t j => ∑ r, (ptI m c t).dvn r (j 1))
    (fun t h j => congrFun (congrArg (fun o => o.2.2.2.1) (GmlpFirst.outs_A m c t h (first_pt t h))) j)
    (fun t h j => congrFun (congrArg (fun o => o.2.2.2.1) (GmlpNext.outs_B m c t h (next_pt t h) _ rfl)) j) t ht j).trans ?_
  exact (Fin.sum_fin_congr fun t => Fin.sum_fin_congr fun r => dvn_pt m c t r _).trans (sum_rows fun r => (argI m c).dvn r (j 1))

/-- What is left for the gradient of the mixing weights after the last point. -/
theorem last_dws (c : Dev nD) (t : Fin cfg0.N) (ht : t.val + 1 = cfg0.N) (j : S16x128x128.Idx) :
    (outsAt0 m c t.val t.isLt).2.2.2.2.1 j = (argI m c).wsum tok (j 0) (j 1) (j 2) := by
  refine (total (outsAt0 m c) (fun o => o.2.2.2.2.1) (fun t j => (ptI m c t).wsum rows (j 0) (j 1) (j 2))
    (fun t h j => congrFun (congrArg (fun o => o.2.2.2.2.1) (GmlpFirst.outs_A m c t h (first_pt t h))) j)
    (fun t h j => congrFun (congrArg (fun o => o.2.2.2.2.1) (GmlpNext.outs_B m c t h (next_pt t h) _ rfl)) j) t ht j).trans ?_
  exact (Fin.sum_fin_congr fun t => wsum_pt m c t _ _ _).trans (sum_chunks fun q => ∑ k, (argI m c).dvv (q (j 1)) (chan (j 0) k) * (argI m c).vn (q (j 2)) (chan (j 0) k))

/-- What is left for the gradient of the mixing shifts after the last point. -/
theorem last_dbs (c : Dev nD) (t : Fin cfg0.N) (ht : t.val + 1 = cfg0.N) (j : S128x16.Idx) :
    (outsAt0 m c t.val t.isLt).2.2.2.2.2 j = (argI m c).bsum tok (j 0) (j 1) := by
  refine (total (outsAt0 m c) (fun o => o.2.2.2.2.2) (fun t j => (ptI m c t).bsum rows (j 0) (j 1))
    (fun t h j => congrFun (congrArg (fun o => o.2.2.2.2.2) (GmlpFirst.outs_A m c t h (first_pt t h))) j)
    (fun t h j => congrFun (congrArg (fun o => o.2.2.2.2.2) (GmlpNext.outs_B m c t h (next_pt t h) _ rfl)) j) t ht j).trans ?_
  exact (Fin.sum_fin_congr fun t => bsum_pt m c t _ _).trans (sum_chunks fun q => ∑ k, (argI m c).dvv (q (j 0)) (chan (j 1) k))

/-- The gradient of the bias before the activation. -/
theorem final_dbin (c : Dev nD) : (dats m 0 c).arrAt 9 cfg0.N = fun j : S1x4096.Idx => ∑ r, (argI m c).dz r (j 1) := by
  refine (dats m 0 c).arrAt_eq_of_after_last 9 tL (by decide +kernel) _ fun j => ?_
  rw [after0_9]
  refine (last_dbin m c tL rfl _).trans ?_
  blk_simp
  rfl

/-- The gradient of the normalisation's gain. -/
theorem final_dg (c : Dev nD) : (dats m 0 c).arrAt 10 cfg0.N = fun j : S1x2048.Idx => ∑ r, (argI m c).dg r (j 1) := by
  refine (dats m 0 c).arrAt_eq_of_after_last 10 tL (by decide +kernel) _ fun j => ?_
  rw [after0_10]
  refine (last_dg m c tL rfl _).trans ?_
  blk_simp
  rfl

/-- The gradient of the normalisation's shift. -/
theorem final_db (c : Dev nD) : (dats m 0 c).arrAt 11 cfg0.N = fun j : S1x2048.Idx => ∑ r, (argI m c).dvn r (j 1) := by
  refine (dats m 0 c).arrAt_eq_of_after_last 11 tL (by decide +kernel) _ fun j => ?_
  rw [after0_11]
  refine (last_db m c tL rfl _).trans ?_
  blk_simp
  rfl

/-- The gradient of the mixing weights. -/
theorem final_dws (c : Dev nD) : (dats m 0 c).arrAt 12 cfg0.N = fun j : S16x128x128.Idx => (argI m c).wsum tok (j 0) (j 1) (j 2) := by
  refine (dats m 0 c).arrAt_eq_of_after_last 12 tL (by decide +kernel) _ fun j => ?_
  rw [after0_12]
  refine (last_dws m c tL rfl _).trans ?_
  blk_simp
  rfl

/-- The gradient of the mixing shifts. -/
theorem final_dbs (c : Dev nD) : (dats m 0 c).arrAt 13 cfg0.N = fun j : S128x16.Idx => (argI m c).bsum tok (j 0) (j 1) := by
  refine (dats m 0 c).arrAt_eq_of_after_last 13 tL (by decide +kernel) _ fun j => ?_
  rw [after0_13]
  refine (last_dbs m c tL rfl _).trans ?_
  blk_simp
  rfl

end Cert.GmlpSums
end
-- ==== Proof.GmlpRef.lean ====
module

public import proofs.«01_k».proof.Proof.GmlpInput

@[expose] public section

set_option maxRecDepth 16384
set_option maxHeartbeats 1000000

noncomputable section

namespace Cert.GmlpRef

open Cert.Reference2Ideal Cert.Reference2Ideal.Read Idealize.ShloMosaic Idealize.ShloMosaic.TcCoe
open Cert.GmlpMath Cert.GmlpInput

variable (x0 : (⟨S8192x2048, .f32⟩ : BufTy).Contents (Elt Ideal)) (x1 : (⟨S8192x4096, .f32⟩ : BufTy).Contents (Elt Ideal))
    (x2 : (⟨S4096, .f32⟩ : BufTy).Contents (Elt Ideal)) (x3 x4 : (⟨S2048, .f32⟩ : BufTy).Contents (Elt Ideal))
    (x5 : (⟨S16x128x128, .f32⟩ : BufTy).Contents (Elt Ideal)) (x6 : (⟨S16x128, .f32⟩ : BufTy).Contents (Elt Ideal))

/-- The reference's literal one. -/
theorem one_bits : (FloatOps.ofBits (F := Ideal) .f32 0x3F800000#32 : EReal) = 1 := by pointwise []

/-! ## The two halves before and after their activation -/

/-- The gated half's pre-activation, as the reference computes it. -/
theorem pu_at (r : Fin 8192) (j : Fin 2048) : val_main_v12 (F := Ideal) x1 x2 (ix2 r j) = (inp x0 x1 x2 x3 x4 x5 x6).pu r j := by
  dsimp only [inp]
  pointwise [val_main_v12, val_main_v5, val_main_v11, val_main_v10, val_main_v7]

/-- The gating half's pre-activation. -/
theorem pv_at (r : Fin 8192) (j : Fin 2048) : val_main_v36 (F := Ideal) x1 x2 (ix2 r j) = (inp x0 x1 x2 x3 x4 x5 x6).pv r j := by
  dsimp only [inp]
  pointwise [val_main_v36, val_main_v6, val_main_v35, val_main_v34, val_main_v8]

/-- The tanh in the gated half's activation. -/
theorem thu_at (i : S8192x2048.Idx) : val_main_v23 (F := Ideal) x1 x2 i = th (val_main_v12 (F := Ideal) x1 x2 i) := by
  simp only [val_main_v23_apply, val_main_v22_apply, val_main_v21_apply, val_main_cst_2_apply, val_main_v20_apply, val_main_v19_apply,
    val_main_v18_apply, val_main_cst_1_apply, val_main_v14_apply, val_main_v13_apply]
  generalize val_main_v12 (F := Ideal) x1 x2 i = p
  exact congrArg (fun z : EReal => Ideal.tanh (Ideal.ofBits .f32 0x3F4C422A#32 * (p + Ideal.ofBits .f32 0x3D372713#32 * z))) (mul_comm (p * p : EReal) p)

/-- The tanh in the gating half's activation. -/
theorem thv_at (i : S8192x2048.Idx) : val_main_v47 (F := Ideal) x1 x2 i = th (val_main_v36 (F := Ideal) x1 x2 i) := by
  simp only [val_main_v47_apply, val_main_v46_apply, val_main_v45_apply, val_main_cst_9_apply, val_main_v44_apply, val_main_v43_apply,
    val_main_v42_apply, val_main_cst_8_apply, val_main_v38_apply, val_main_v37_apply]
  generalize val_main_v36 (F := Ideal) x1 x2 i = p
  exact congrArg (fun z : EReal => Ideal.tanh (Ideal.ofBits .f32 0x3F4C422A#32 * (p + Ideal.ofBits .f32 0x3D372713#32 * z))) (mul_comm (p * p : EReal) p)

/-- The gated half. -/
theorem u_at (r : Fin 8192) (j : Fin 2048) : val_main_v33 (F := Ideal) x1 x2 (ix2 r j) = (inp x0 x1 x2 x3 x4 x5 x6).u r j := by
  simp only [val_main_v33_apply, val_main_v32_apply, val_main_v31_apply, val_main_cst_6_apply, val_main_v30_apply, val_main_v29_apply,
    val_main_cst_5_apply, thu_at, one_bits, pu_at x0 x1 x2 x3 x4 x5 x6]
  rfl

/-- The gating half before its normalisation. -/
theorem v_at (r : Fin 8192) (j : Fin 2048) : val_main_v57 (F := Ideal) x1 x2 (ix2 r j) = (inp x0 x1 x2 x3 x4 x5 x6).v r j := by
  simp only [val_main_v57_apply, val_main_v56_apply, val_main_v55_apply, val_main_cst_13_apply, val_main_v54_apply, val_main_v53_apply,
    val_main_cst_12_apply, thv_at, one_bits, pv_at x0 x1 x2 x3 x4 x5 x6]
  rfl

/-! ## The activation's gradient, for both halves -/

/-- The gated half's activation, differentiated. -/
theorem dzu_at' (i : S8192x2048.Idx) : val_main_v162 (F := Ideal) x0 x1 x2 x3 x4 x5 x6 i =
    dgel (val_main_v12 (F := Ideal) x1 x2 i) (val_main_v93 (F := Ideal) x0 x1 x2 x3 x4 x5 x6 i) := by
  simp only [val_main_v162_apply, val_main_v161_apply, val_main_v160_apply, val_main_v159_apply, val_main_v158_apply, val_main_v157_apply,
    val_main_v156_apply, val_main_v155_apply, val_main_v154_apply, val_main_v153_apply, val_main_v152_apply, val_main_v151_apply,
    val_main_cst_38_apply, val_main_cst_39_apply, val_main_cst_40_apply, val_main_v32_apply, val_main_v31_apply, val_main_cst_6_apply,
    val_main_v30_apply, val_main_v29_apply, val_main_cst_5_apply, val_main_v28_apply, val_main_v27_apply, val_main_v26_apply,
    val_main_cst_4_apply, val_main_v25_apply, val_main_v24_apply, val_main_cst_3_apply, val_main_v17_apply, val_main_v16_apply,
    val_main_cst_0_apply, val_main_v15_apply, thu_at, one_bits]
  rfl

/-- The gating half's activation, differentiated. -/
theorem dzv_at' (i : S8192x2048.Idx) : val_main_v147 (F := Ideal) x0 x1 x2 x3 x5 i =
    dgel (val_main_v36 (F := Ideal) x1 x2 i) (val_main_v135 (F := Ideal) x0 x1 x2 x3 x5 i) := by
  simp only [val_main_v147_apply, val_main_v146_apply, val_main_v145_apply, val_main_v144_apply, val_main_v143_apply, val_main_v142_apply,
    val_main_v141_apply, val_main_v140_apply, val_main_v139_apply, val_main_v138_apply, val_main_v137_apply, val_main_v136_apply,
    val_main_cst_33_apply, val_main_cst_34_apply, val_main_cst_35_apply, val_main_v56_apply, val_main_v55_apply, val_main_cst_13_apply,
    val_main_v54_apply, val_main_v53_apply, val_main_cst_12_apply, val_main_v52_apply, val_main_v51_apply, val_main_v50_apply,
    val_main_cst_11_apply, val_main_v49_apply, val_main_v48_apply, val_main_cst_10_apply, val_main_v41_apply, val_main_v40_apply,
    val_main_cst_7_apply, val_main_v39_apply, thv_at, one_bits]
  rfl

/-! ## The normalisation of a row -/

/-- The centred row. -/
theorem xc_at (r : Fin 8192) (j : Fin 2048) : val_main_v63 (F := Ideal) x1 x2 (ix2 r j) = xc (fun k => val_main_v57 (F := Ideal) x1 x2 (ix2 r k)) j := by
  pointwise [val_main_v63, val_main_v62, val_main_v61, val_main_v60, val_main_v59, val_main_v58, val_main_cst_14, val_main_cst_15]
  rfl

/-- The row's variance plus ε. -/
theorem ve_at (r : Fin 8192) : val_main_v70 (F := Ideal) x1 x2 (ix2 r 0) = ve (fun k => val_main_v57 (F := Ideal) x1 x2 (ix2 r k)) := by
  pointwise [val_main_v70, val_main_v69, val_main_v68, val_main_v67, val_main_v66, val_main_v65, val_main_v64, val_main_cst_16, val_main_cst_17, val_main_cst_18]
  simp only [xc_at]
  rfl

/-- The normalised row before its gain and shift. -/
theorem xn_at (r : Fin 8192) (j : Fin 2048) : val_main_v76 (F := Ideal) x1 x2 (ix2 r j) = xn (fun k => val_main_v57 (F := Ideal) x1 x2 (ix2 r k)) j := by
  pointwise [val_main_v76, val_main_v75, val_main_v71]
  simp only [xc_at, ve_at]
  rfl

/-- The normalised gating half. -/
theorem vn_at (r : Fin 8192) (j : Fin 2048) : val_main_v82 (F := Ideal) x1 x2 x3 x4 (ix2 r j) = (inp x0 x1 x2 x3 x4 x5 x6).vn r j := by
  pointwise [val_main_v82, val_main_v81, val_main_v80, val_main_v79, val_main_v78, val_main_v77]
  simp only [xn_at, v_at x0 x1 x2 x3 x4 x5 x6]
  rfl

/-! ## The mixing of a chunk, and its gradients -/

/-- The gradient of the mixed gating half. -/
theorem dvv_at (r : Fin 8192) (j : Fin 2048) : val_main_v92 (F := Ideal) x0 x1 x2 (ix2 r j) = (inp x0 x1 x2 x3 x4 x5 x6).dvv r j := by
  simp only [val_main_v92_apply, u_at x0 x1 x2 x3 x4 x5 x6]
  exact mul_comm (_ : EReal) _

/-- The mixed gating half: a token's channel is mixed with its chunk's tokens. -/
theorem gate_at (r : Fin 8192) (j : Fin 2048) : val_main_v90 (F := Ideal) x1 x2 x3 x4 x5 x6 (ix2 r j) =
    (∑ s, val_main_v82 (F := Ideal) x1 x2 x3 x4 (ix2 ⟨128 * (r.val / 128) + s.val, by omega⟩ j)
        * val_main_v4 (F := Ideal) x5 (ix3 (grp j) ⟨r.val % 128, by omega⟩ s))
      + x6 (ix2 (grp j) ⟨r.val % 128, by omega⟩) := by
  pointwise [val_main_v90, val_main_v89, val_main_v88, val_main_v87, val_main_v86, val_main_v9, val_main_v85, val_main_v84, val_main_v83]
  simp only [Nat.mul_comm _ 128]
  rfl

/-- The gradient of the gated half. -/
theorem du_at (r : Fin 8192) (j : Fin 2048) : val_main_v93 (F := Ideal) x0 x1 x2 x3 x4 x5 x6 (ix2 r j) = (inp x0 x1 x2 x3 x4 x5 x6).du r j := by
  rw [val_main_v93_apply, gate_at]
  simp only [vn_at x0 x1 x2 x3 x4 x5 x6]
  refine congrArg (fun z : EReal => x0 (ix2 r j) * (z + x6 (ix2 (grp j) ⟨r.val % 128, by omega⟩))) (Finset.sum_congr rfl fun s _ => ?_)
  exact mul_comm (_ : EReal) _

/-- The transposed mixing of a gradient. -/
theorem mix_at (r : Fin 8192) (j : Fin 2048) : val_main_v104 (F := Ideal) x0 x1 x2 x5 (ix2 r j) =
    ∑ s, val_main_v92 (F := Ideal) x0 x1 x2 (ix2 ⟨128 * (r.val / 128) + s.val, by omega⟩ j)
      * val_main_v4 (F := Ideal) x5 (ix3 (grp j) s ⟨r.val % 128, by omega⟩) := by
  pointwise [val_main_v104, val_main_v103, val_main_v102, val_main_v100, val_main_v94]
  simp only [Nat.mul_comm _ 128]
  rfl

/-- The gradient of the normalised gating half. -/
theorem dvn_at (r : Fin 8192) (j : Fin 2048) : val_main_v104 (F := Ideal) x0 x1 x2 x5 (ix2 r j) = (inp x0 x1 x2 x3 x4 x5 x6).dvn r j := by
  rw [mix_at]
  simp only [dvv_at x0 x1 x2 x3 x4 x5 x6]
  exact Finset.sum_congr rfl fun s _ => mul_comm (_ : EReal) _

/-! ## The normalisation's gradient -/

/-- The gradient that reaches the variance. -/
theorem dvar_at (r : Fin 8192) : val_main_v122 (F := Ideal) x0 x1 x2 x3 x5 (ix1 r) =
    dvar (fun k => val_main_v57 (F := Ideal) x1 x2 (ix2 r k)) (fun k => x3 (ix1 k)) (fun k => val_main_v104 (F := Ideal) x0 x1 x2 x5 (ix2 r k)) := by
  pointwise [val_main_v122, val_main_v121, val_main_v120, val_main_v119, val_main_v116, val_main_v115, val_main_v114, val_main_v112,
    val_main_v111, val_main_v77, val_main_v74, val_main_v73, val_main_v72, val_main_v71, val_main_cst_19, val_main_cst_27, val_main_cst_28, val_main_cst_29]
  simp only [Fin.sum_univ_one, xc_at, ve_at]
  rfl

/-- The gradient of the centred row. -/
theorem dxc_at (r : Fin 8192) (j : Fin 2048) : val_main_v127 (F := Ideal) x0 x1 x2 x3 x5 (ix2 r j) =
    dxc (fun k => val_main_v57 (F := Ideal) x1 x2 (ix2 r k)) (fun k => x3 (ix1 k)) (fun k => val_main_v104 (F := Ideal) x0 x1 x2 x5 (ix2 r k)) j := by
  pointwise [val_main_v127, val_main_v126, val_main_v125, val_main_v124, val_main_v123, val_main_v118, val_main_v117, val_main_v112,
    val_main_v111, val_main_v77, val_main_v71]
  simp only [xc_at, ve_at, dvar_at]
  rfl

/-- The gradient of the row. -/
theorem dln_at (r : Fin 8192) (j : Fin 2048) : val_main_v135 (F := Ideal) x0 x1 x2 x3 x5 (ix2 r j) =
    dln (fun k => val_main_v57 (F := Ideal) x1 x2 (ix2 r k)) (fun k => x3 (ix1 k)) (fun k => val_main_v104 (F := Ideal) x0 x1 x2 x5 (ix2 r k)) j := by
  pointwise [val_main_v135, val_main_v134, val_main_v133, val_main_v132, val_main_v131, val_main_v130, val_main_v129, val_main_v128,
    val_main_cst_30, val_main_cst_31, val_main_cst_32]
  simp only [Fin.sum_univ_one, dxc_at]
  rfl

/-- The gradient of the gated half's pre-activation. -/
theorem dzu_at (r : Fin 8192) (j : Fin 2048) : val_main_v162 (F := Ideal) x0 x1 x2 x3 x4 x5 x6 (ix2 r j) = (inp x0 x1 x2 x3 x4 x5 x6).dzu r j := by
  rw [dzu_at', du_at, pu_at x0 x1 x2 x3 x4 x5 x6]
  rfl

/-- The gradient of the gating half's pre-activation. -/
theorem dzv_at (r : Fin 8192) (j : Fin 2048) : val_main_v147 (F := Ideal) x0 x1 x2 x3 x5 (ix2 r j) = (inp x0 x1 x2 x3 x4 x5 x6).dzv r j := by
  rw [dzv_at', dln_at, pv_at x0 x1 x2 x3 x4 x5 x6]
  simp only [v_at x0 x1 x2 x3 x4 x5 x6, dvn_at x0 x1 x2 x3 x4 x5 x6]
  rfl

/-! ## The results -/

/-- The reference's first result: the gradient of the projected input. -/
theorem dz_at (r : Fin 8192) (q : Fin 4096) : val_main_v166 (F := Ideal) x0 x1 x2 x3 x4 x5 x6 (ix2 r q) = (inp x0 x1 x2 x3 x4 x5 x6).dz r q := by
  pointwise [val_main_v166]
  simp only [dzu_at, dzv_at x0 x1 x2 x3 x4 x5 x6]
  rfl

/-- Its second: the gradient of the bias. -/
theorem dbin_at (q : Fin 4096) : val_main_v169 (F := Ideal) x0 x1 x2 x3 x4 x5 x6 (ix2 0 q) = ∑ r, (inp x0 x1 x2 x3 x4 x5 x6).dz r q := by
  pointwise [val_main_v169, val_main_v168, val_main_v165, val_main_v164, val_main_v163, val_main_v150, val_main_v149, val_main_v148,
    val_main_cst_41, val_main_cst_42, val_main_cst_36, val_main_cst_37]
  simp only [Fin.sum_univ_one, dzu_at, dzv_at x0 x1 x2 x3 x4 x5 x6]
  split
  · exact Finset.sum_congr rfl fun r _ => ((inp x0 x1 x2 x3 x4 x5 x6).dz_lo r q _ rfl).symm
  · exact Finset.sum_congr rfl fun r _ => ((inp x0 x1 x2 x3 x4 x5 x6).dz_hi r q _ (by simp; omega)).symm

/-- Its third: the gradient of the normalisation's gain. -/
theorem dg_at (j : Fin 2048) : val_main_v170 (F := Ideal) x0 x1 x2 x5 (ix2 0 j) = ∑ r, (inp x0 x1 x2 x3 x4 x5 x6).dg r j := by
  pointwise [val_main_v170, val_main_v113, val_main_v110, val_main_v109, val_main_v108, val_main_cst_25, val_main_cst_26]
  simp only [Fin.sum_univ_one, xn_at, v_at x0 x1 x2 x3 x4 x5 x6, dvn_at x0 x1 x2 x3 x4 x5 x6]
  rfl

/-- Its fourth: the gradient of the normalisation's shift. -/
theorem db_at (j : Fin 2048) : val_main_v171 (F := Ideal) x0 x1 x2 x5 (ix2 0 j) = ∑ r, (inp x0 x1 x2 x3 x4 x5 x6).dvn r j := by
  pointwise [val_main_v171, val_main_v107, val_main_v106, val_main_v105, val_main_cst_23, val_main_cst_24]
  simp only [Fin.sum_univ_one, dvn_at x0 x1 x2 x3 x4 x5 x6]

/-- Its fifth: the gradient of the mixing weights. -/
theorem dws_at (g : Fin 16) (a b : Fin 128) : val_main_v101 (F := Ideal) x0 x1 x2 x3 x4 (ix3 g a b) =
    (inp x0 x1 x2 x3 x4 x5 x6).wsum (fun (s : Fin 64) a => ⟨128 * s.val + a.val, by omega⟩) g a b := by
  pointwise [val_main_v101, val_main_v100, val_main_v94, val_main_v83]
  simp only [Nat.mul_comm _ 128, dvv_at x0 x1 x2 x3 x4 x5 x6, vn_at x0 x1 x2 x3 x4 x5 x6]
  rfl

/-- A sum over the first and the last axis. -/
theorem sum_outer {n0 n1 n2 n3 : ℕ} (h : (⟨4, ![n0, n1, n2, n3]⟩ : Shape).ReducesTo [0, 3] ⟨2, ![n1, n2]⟩)
    (v : (⟨4, ![n0, n1, n2, n3]⟩ : Shape).Idx → EReal) (init : EReal) (a : Fin n1) (g : Fin n2) :
    Ideal.hostReduceAdd h v init (ix2 a g) = init + ∑ c : Fin n0, ∑ k : Fin n3, v (ix4 c a g k) := by
  refine congrArg (init + ·) ((Finset.sum_filter_eq_sum_of_fiber _ (fun k : Fin n0 × Fin n3 => ix4 k.1 a g k.2)
    (fun _ _ e => Prod.ext (congrFun e 0) (congrFun e 3)) (fun i => ?_) v).trans (by simp only [Fintype.sum_prod_type]))
  constructor
  · intro e
    refine ⟨(i 0, i 3), funext fun x => Fin.ext ?_⟩
    match x with
    | ⟨0, _⟩ => rfl
    | ⟨1, _⟩ => exact (congrArg Fin.val (congrFun e 0)).symm
    | ⟨2, _⟩ => exact (congrArg Fin.val (congrFun e 1)).symm
    | ⟨3, _⟩ => rfl
  · rintro ⟨k, rfl⟩
    refine funext fun x => Fin.ext ?_
    match x with
    | ⟨0, _⟩ => rfl
    | ⟨1, _⟩ => rfl

/-- The sum over chunks and channels that gives the mixing shifts' gradient. -/
theorem v95_at (a : Fin 128) (g : Fin 16) : val_main_v95 (F := Ideal) x0 x1 x2 (ix2 a g) =
    (inp x0 x1 x2 x3 x4 x5 x6).bsum (fun (s : Fin 64) a => ⟨128 * s.val + a.val, by omega⟩) a g := by
  refine (sum_outer _ _ _ a g).trans ?_
  pointwise [val_main_v94, val_main_cst_20]
  simp only [Nat.mul_comm _ 128, dvv_at x0 x1 x2 x3 x4 x5 x6]
  rfl

/-- A sum over axes of length one changes nothing. -/
theorem v97_at (a : Fin 128) (g : Fin 16) : val_main_v97 (F := Ideal) x0 x1 x2 (ix2 a g) = val_main_v95 (F := Ideal) x0 x1 x2 (ix2 a g) := by
  refine (sum_outer _ _ _ a g).trans ?_
  pointwise [val_main_v96, val_main_cst_21]
  simp only [Fin.sum_univ_one]

/-- Its sixth: the gradient of the mixing shifts. -/
theorem dbs_at (a : Fin 128) (g : Fin 16) : val_main_v99 (F := Ideal) x0 x1 x2 (ix2 a g) =
    (inp x0 x1 x2 x3 x4 x5 x6).bsum (fun (s : Fin 64) a => ⟨128 * s.val + a.val, by omega⟩) a g := by
  pointwise [val_main_v99, val_main_v98, val_main_cst_22]
  simp only [Fin.sum_univ_one, v97_at, v95_at x0 x1 x2 x3 x4 x5 x6]

end Cert.GmlpRef
end
-- ==== Proof.GmlpValue.lean ====
module

public import proofs.«01_k».proof.Proof.GmlpSums
public import proofs.«01_k».proof.Proof.GmlpRef

@[expose] public section

set_option maxRecDepth 16384

noncomputable section

namespace Cert.GmlpValue

open Cert.Kernel2Ideal Cert.Kernel2Ideal.Gen Idealize.ShloMosaic Idealize.ShloMosaic.TcCoe Idealize.SL.Sem
open Cert.Reference2Ideal.Read Cert.GmlpMath Cert.GmlpInput

variable (m : (ℓ : Loc nD τ sig) → Buf (Elt Ideal) ℓ)

/-! ## The kernel's six arrays are the reference's -/

/-- The gradient of the projected input. -/
theorem dz (c : Dev nD) : (dats m 0 c).arrAt 8 cfg0.N
    = val_main_v167 (F := Ideal) (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6)) := by
  rw [GmlpSums.final_dz]
  funext j
  have e : j = ix2 (j 0) (j 1) := by
    funext k
    fin_cases k <;> rfl
  exact ((congrArg _ e).trans (GmlpRef.dz_at _ _ _ _ _ _ _ (j 0) (j 1))).symm

/-- The gradient of the bias before the activation. -/
theorem dbin (c : Dev nD) : (dats m 0 c).arrAt 9 cfg0.N
    = val_main_v169 (F := Ideal) (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) (m ((c.tc : Thread nD τ).loc main_arg6)) := by
  rw [GmlpSums.final_dbin]
  funext j
  have e : j = ix2 0 (j 1) := by
    funext k
    fin_cases k
    · exact Subsingleton.elim (α := Fin 1) _ _
    · rfl
  exact ((congrArg _ e).trans (GmlpRef.dbin_at _ _ _ _ _ _ _ (j 1))).symm

/-- The gradient of the normalisation's gain. -/
theorem dg (c : Dev nD) : (dats m 0 c).arrAt 10 cfg0.N
    = val_main_v170 (F := Ideal) (m ((c.tc : Thread nD τ).loc main_arg0)) (m ((c.tc : Thread nD τ).loc main_arg1)) (m ((c.tc : Thread nD τ).loc main_arg2))
      (m ((c.tc : Thread nD τ).loc main_arg5)) := by
  rw [GmlpSums.final_dg]
  funext j
  have e : j = ix2 0 (j 1) := by
    funext k
    fin_cases k
    · exact Subsingleton.elim (α := Fin 1) _ _
    · rfl
  exact ((congrArg _ e).trans (GmlpRef.dg_at _ _ _ _ _ _ _ (j 1))).symm

/-- The gradient of the normalisation's shift. -/
theorem db (c : Dev nD) : (dats m 0 c).arrAt 11 cfg0.N
    = val_main_v171 (F := Ideal) (m ((c.tc : Thread nD τ).loc main_arg0)) (m ((c.tc : Thread nD τ).loc main_arg1)) (m ((c.tc : Thread nD τ).loc main_arg2))
      (m ((c.tc : Thread nD τ).loc main_arg5)) := by
  rw [GmlpSums.final_db]
  funext j
  have e : j = ix2 0 (j 1) := by
    funext k
    fin_cases k
    · exact Subsingleton.elim (α := Fin 1) _ _
    · rfl
  exact ((congrArg _ e).trans (GmlpRef.db_at _ _ _ _ _ _ _ (j 1))).symm

/-- The gradient of the mixing weights. -/
theorem dws (c : Dev nD) : (dats m 0 c).arrAt 12 cfg0.N
    = val_main_v101 (F := Ideal) (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) := by
  rw [GmlpSums.final_dws]
  funext j
  have e : j = ix3 (j 0) (j 1) (j 2) := by
    funext k
    fin_cases k <;> rfl
  exact ((congrArg _ e).trans (GmlpRef.dws_at _ _ _ _ _ _ _ (j 0) (j 1) (j 2))).symm

/-- The gradient of the mixing shifts. -/
theorem dbs (c : Dev nD) : (dats m 0 c).arrAt 13 cfg0.N
    = val_main_v99 (F := Ideal) (m ((c.tc : Thread nD τ).loc main_arg0)) (m ((c.tc : Thread nD τ).loc main_arg1)) (m ((c.tc : Thread nD τ).loc main_arg2)) := by
  rw [GmlpSums.final_dbs]
  funext j
  have e : j = ix2 (j 0) (j 1) := by
    funext k
    fin_cases k <;> rfl
  exact ((congrArg _ e).trans (GmlpRef.dbs_at _ _ _ _ _ _ _ (j 0) (j 1))).symm

end Cert.GmlpValue

end
-- ==== Proof.GuDxValue.lean ====
module

public import proofs.«01_k».proof.Proof.Gen.Kernel3Ideal.Value
public import proofs.«01_k».proof.Proof.Gen.Reference3Ideal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.GuDxValue

open Cert.Kernel3Ideal Cert.Kernel3Ideal.Gen Idealize.ShloMosaic Idealize.ShloMosaic.TcCoe Idealize.SL.Sem
open Cert.Reference3Ideal.Read

variable (m : (ℓ : Loc nD τ sig) → Buf (Elt Ideal) ℓ)

/-- Each window's block index at a point: rows by `t / 4`, columns of the result by `t / 2 % 2`, the contracted columns by `t % 2`. -/
theorem idx : ∀ t : Fin cfg0.N, win0_0.index t = ![t.val / 4, t.val % 2] ∧ win0_1.index t = ![0, t.val / 2 % 2, t.val % 2]
    ∧ win0_2.index t = ![t.val / 4, t.val / 2 % 2] :=
  (by decide +kernel : ∀ t : Fin grid0.N, _)

/-- The product of two blocks, at an element. -/
def prod (a : Vec Ideal S1024x2816 .bf16) (b : Vec Ideal S1x512x2816 .bf16) (y : S1024x512.Idx) : EReal :=
  ∑ k : Fin 2816, a (ix2 (y 0) k) * b (ix3 0 (y 1) k)

/-- What the body computes of two blocks. -/
theorem pay (a : Vec Ideal S1024x2816 .bf16) (b : Vec Ideal S1x512x2816 .bf16) (y : S1024x512.Idx) :
    k0_pay1 (F := Ideal) a b y = prod a b y := by
  pointwise [k0_pay1, prod]

/-- A point's part of the product. -/
def part (c : Dev nD) (t : Fin cfg0.N) (y : S1024x512.Idx) : EReal := prod (iblk m c 0 t) (iblk m c 1 t) y

/-- The first block of a run is written to the accumulator. -/
theorem acc_first (c : Dev nD) (t : Fin cfg0.N) (h : t.val % 2 = 0) (y : S1024x512.Idx) :
    (outsAt0 m c t.val t.isLt).2 y = 0 + part m c t y := by
  rw [outsAt0_A m c t h (by omega) (by omega), zero_add]
  frame_out
  unfold k0_pay2
  rw [shapeCast_self]
  exact pay _ _ y

/-- Every later block is added to it. -/
theorem acc_next (c : Dev nD) (t : Fin cfg0.N) (h : ¬t.val % 2 = 0) (y : S1024x512.Idx) :
    (outsAt0 m c t.val t.isLt).2 y = (outsAt0 m c (t.val - 1) (Nat.lt_of_le_of_lt (Nat.sub_le _ _) t.isLt)).2 y + part m c t y := by
  rw [outsAt0_B m c t h (by omega) (by omega)]
  generalize (outsAt0 m c (t.val - 1) (Nat.lt_of_le_of_lt (Nat.sub_le _ _) t.isLt)).2 = A
  frame_out
  simp only [read_unread_whole]
  unfold k0_pay3
  rw [shapeCast_self]
  exact congrArg (A y + ·) (pay _ _ y)

/-- At the last block the accumulator is written out. -/
theorem out_last (c : Dev nD) (t : Fin cfg0.N) (h : t.val % 2 = 1) (y : S1024x512.Idx) :
    (outsAt0 m c t.val t.isLt).1 y = (outsAt0 m c t.val t.isLt).2 y := by
  rw [outsAt0_B m c t (by omega) h h]
  generalize (outsAt0 m c (t.val - 1) (Nat.lt_of_le_of_lt (Nat.sub_le _ _) t.isLt)).2 = A
  frame_out

/-- The kernel's array is the reference's. -/
theorem final (c : Dev nD) : (dats m 0 c).arrAt 2 cfg0.N
    = val_main_v3 (F := Ideal) (m ((c.tc : Thread nD τ).loc main_arg0)) (m ((c.tc : Thread nD τ).loc main_arg1)) := by
  refine (dats m 0 c).arrAt_eq_of_covers 2 _ (by decide +kernel) fun t hf y => ?_
  have hl := (flush0_2 t).mp hf
  rw [after0_2]
  refine (out_last m c t hl _).trans ((Pipeline.eq_sum_fin_of_reset_step_apply_of_flush (fun n h => (outsAt0 m c n h).2) 2 (fun _ => 0) (part m c)
    (acc_first m c) (acc_next m c) t hl _).trans ?_)
  rw [zero_add]
  pointwise [val_main_v3, val_main_v1]
  simp only [part, prod]
  refine Fin.sum_mul_add_congr fun s k hk => ?_
  blk_point [iblk, V, idx t, idx ⟨_, Pipeline.run_point_lt_of_flush t hl s⟩] <;> omega

end Cert.GuDxValue
end
-- ==== Proof.GuDwValue.lean ====
module

public import proofs.«01_k».proof.Proof.Gen.Kernel4Ideal.Value
public import proofs.«01_k».proof.Proof.Gen.Reference4Ideal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.GuDwValue

open Cert.Kernel4Ideal Cert.Kernel4Ideal.Gen Idealize.ShloMosaic Idealize.ShloMosaic.TcCoe Idealize.SL.Sem
open Cert.Reference4Ideal.Read

variable (m : (ℓ : Loc nD τ sig) → Buf (Elt Ideal) ℓ)

/-- Each window's block index at a point: the first operand's columns, the second's columns, and the contracted rows by `t % 4`. -/
theorem idx : ∀ t : Fin cfg0.N, win0_0.index t = ![t.val % 4, 0] ∧ win0_1.index t = ![t.val % 4, t.val / 4]
    ∧ win0_2.index t = ![0, t.val / 4] :=
  (by decide +kernel : ∀ t : Fin grid0.N, _)

/-- The product of two blocks over their rows, at an element. -/
def prod (a : Vec Ideal S2048x1024 .bf16) (b : Vec Ideal S2048x512 .bf16) (y : S1024x512.Idx) : EReal :=
  ∑ k : Fin 2048, a (ix2 k (y 0)) * b (ix2 k (y 1))

/-- What the body computes of two blocks. -/
theorem pay (a : Vec Ideal S2048x1024 .bf16) (b : Vec Ideal S2048x512 .bf16) (y : S1024x512.Idx) :
    k0_pay1 (F := Ideal) a b y = prod a b y := by
  pointwise [k0_pay1, prod]

/-- A point's part of the product. -/
def part (c : Dev nD) (t : Fin cfg0.N) (y : S1024x512.Idx) : EReal := prod (iblk m c 0 t) (iblk m c 1 t) y

/-- The first block of a run is written to the accumulator. -/
theorem acc_first (c : Dev nD) (t : Fin cfg0.N) (h : t.val % 4 = 0) (y : S1024x512.Idx) :
    (outsAt0 m c t.val t.isLt).2 y = 0 + part m c t y := by
  rw [outsAt0_A m c t h (by omega) (by omega), zero_add]
  frame_out
  unfold k0_pay2
  rw [shapeCast_self]
  exact pay _ _ y

/-- Every later block is added to it. -/
theorem acc_next (c : Dev nD) (t : Fin cfg0.N) (h : ¬t.val % 4 = 0) (y : S1024x512.Idx) :
    (outsAt0 m c t.val t.isLt).2 y = (outsAt0 m c (t.val - 1) (Nat.lt_of_le_of_lt (Nat.sub_le _ _) t.isLt)).2 y + part m c t y := by
  by_cases hl : t.val % 4 = 3
  · rw [outsAt0_C m c t h (by omega) hl]
    generalize (outsAt0 m c (t.val - 1) (Nat.lt_of_le_of_lt (Nat.sub_le _ _) t.isLt)).2 = A
    frame_out
    simp only [read_unread_whole]
    unfold k0_pay3
    rw [shapeCast_self]
    exact congrArg (A y + ·) (pay _ _ y)
  · rw [outsAt0_B m c t h (by omega) hl]
    generalize (outsAt0 m c (t.val - 1) (Nat.lt_of_le_of_lt (Nat.sub_le _ _) t.isLt)).2 = A
    frame_out
    simp only [read_unread_whole]
    unfold k0_pay3
    rw [shapeCast_self]
    exact congrArg (A y + ·) (pay _ _ y)

/-- At the last block the accumulator is written out. -/
theorem out_last (c : Dev nD) (t : Fin cfg0.N) (h : t.val % 4 = 3) (y : S1024x512.Idx) :
    (outsAt0 m c t.val t.isLt).1 y = (outsAt0 m c t.val t.isLt).2 y := by
  rw [outsAt0_C m c t (by omega) (by omega) h]
  generalize (outsAt0 m c (t.val - 1) (Nat.lt_of_le_of_lt (Nat.sub_le _ _) t.isLt)).2 = A
  frame_out
  rfl

/-- The kernel's array is the reference's. -/
theorem final (c : Dev nD) : (dats m 0 c).arrAt 2 cfg0.N
    = val_main_v4 (F := Ideal) (m ((c.tc : Thread nD τ).loc main_arg0)) (m ((c.tc : Thread nD τ).loc main_arg1)) := by
  refine (dats m 0 c).arrAt_eq_of_covers 2 _ (by decide +kernel) fun t hf y => ?_
  have hl := (flush0_2 t).mp hf
  rw [after0_2]
  refine (out_last m c t hl _).trans ((Pipeline.eq_sum_fin_of_reset_step_apply_of_flush (fun n h => (outsAt0 m c n h).2) 4 (fun _ => 0) (part m c)
    (acc_first m c) (acc_next m c) t hl _).trans ?_)
  rw [zero_add]
  pointwise [val_main_v4, val_main_v3, val_main_v2]
  simp only [part, prod]
  refine Fin.sum_mul_add_congr fun s k hk => ?_
  rw [mul_comm]
  blk_point [iblk, V, idx t, idx ⟨_, Pipeline.run_point_lt_of_flush t hl s⟩] <;> omega

end Cert.GuDwValue
end
-- ==== Proof.DownDwValue.lean ====
module

public import proofs.«01_k».proof.Proof.Gen.Kernel5Ideal.Value
public import proofs.«01_k».proof.Proof.Gen.Reference5Ideal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.DownDwValue

open Cert.Kernel5Ideal Cert.Kernel5Ideal.Gen Idealize.ShloMosaic Idealize.ShloMosaic.TcCoe Idealize.SL.Sem
open Cert.Reference5Ideal.Read

variable (m : (ℓ : Loc nD τ sig) → Buf (Elt Ideal) ℓ)

/-- Each window's block index at a point: the first operand's columns, the second's columns, and the contracted rows by `t % 4`. -/
theorem idx : ∀ t : Fin cfg0.N, win0_0.index t = ![t.val % 4, t.val / 8] ∧ win0_1.index t = ![t.val % 4, t.val / 4 % 2]
    ∧ win0_2.index t = ![t.val / 8, t.val / 4 % 2] :=
  (by decide +kernel : ∀ t : Fin grid0.N, _)

/-- The product of two blocks over their rows, at an element. -/
def prod (a : Vec Ideal S2048x1408 .bf16) (b : Vec Ideal S2048x512 .bf16) (y : S1408x512.Idx) : EReal :=
  ∑ k : Fin 2048, a (ix2 k (y 0)) * b (ix2 k (y 1))

/-- What the body computes of two blocks. -/
theorem pay (a : Vec Ideal S2048x1408 .bf16) (b : Vec Ideal S2048x512 .bf16) (y : S1408x512.Idx) :
    k0_pay1 (F := Ideal) a b y = prod a b y := by
  pointwise [k0_pay1, prod]

/-- A point's part of the product. -/
def part (c : Dev nD) (t : Fin cfg0.N) (y : S1408x512.Idx) : EReal := prod (iblk m c 0 t) (iblk m c 1 t) y

/-- The first block of a run is written to the accumulator. -/
theorem acc_first (c : Dev nD) (t : Fin cfg0.N) (h : t.val % 4 = 0) (y : S1408x512.Idx) :
    (outsAt0 m c t.val t.isLt).2 y = 0 + part m c t y := by
  rw [outsAt0_A m c t h (by omega) (by omega), zero_add]
  frame_out
  unfold k0_pay2
  rw [shapeCast_self]
  exact pay _ _ y

/-- Every later block is added to it. -/
theorem acc_next (c : Dev nD) (t : Fin cfg0.N) (h : ¬t.val % 4 = 0) (y : S1408x512.Idx) :
    (outsAt0 m c t.val t.isLt).2 y = (outsAt0 m c (t.val - 1) (Nat.lt_of_le_of_lt (Nat.sub_le _ _) t.isLt)).2 y + part m c t y := by
  by_cases hl : t.val % 4 = 3
  · rw [outsAt0_C m c t h (by omega) hl]
    generalize (outsAt0 m c (t.val - 1) (Nat.lt_of_le_of_lt (Nat.sub_le _ _) t.isLt)).2 = A
    frame_out
    simp only [read_unread_whole]
    unfold k0_pay3
    rw [shapeCast_self]
    exact congrArg (A y + ·) (pay _ _ y)
  · rw [outsAt0_B m c t h (by omega) hl]
    generalize (outsAt0 m c (t.val - 1) (Nat.lt_of_le_of_lt (Nat.sub_le _ _) t.isLt)).2 = A
    frame_out
    simp only [read_unread_whole]
    unfold k0_pay3
    rw [shapeCast_self]
    exact congrArg (A y + ·) (pay _ _ y)

/-- At the last block the accumulator is written out. -/
theorem out_last (c : Dev nD) (t : Fin cfg0.N) (h : t.val % 4 = 3) (y : S1408x512.Idx) :
    (outsAt0 m c t.val t.isLt).1 y = (outsAt0 m c t.val t.isLt).2 y := by
  rw [outsAt0_C m c t (by omega) (by omega) h]
  generalize (outsAt0 m c (t.val - 1) (Nat.lt_of_le_of_lt (Nat.sub_le _ _) t.isLt)).2 = A
  frame_out
  rfl

/-- The kernel's array is the reference's. -/
theorem final (c : Dev nD) : (dats m 0 c).arrAt 2 cfg0.N
    = val_main_v4 (F := Ideal) (m ((c.tc : Thread nD τ).loc main_arg0)) (m ((c.tc : Thread nD τ).loc main_arg1)) := by
  refine (dats m 0 c).arrAt_eq_of_covers 2 _ (by decide +kernel) fun t hf y => ?_
  have hl := (flush0_2 t).mp hf
  rw [after0_2]
  refine (out_last m c t hl _).trans ((Pipeline.eq_sum_fin_of_reset_step_apply_of_flush (fun n h => (outsAt0 m c n h).2) 4 (fun _ => 0) (part m c)
    (acc_first m c) (acc_next m c) t hl _).trans ?_)
  rw [zero_add]
  pointwise [val_main_v4, val_main_v3, val_main_v2]
  simp only [part, prod]
  refine Fin.sum_mul_add_congr fun s k hk => ?_
  rw [mul_comm]
  blk_point [iblk, V, idx t, idx ⟨_, Pipeline.run_point_lt_of_flush t hl s⟩] <;> omega

end Cert.DownDwValue
end
-- ==== Proof.UpValue.lean ====
module

public import proofs.«01_k».proof.Proof.Gen.Kernel6Ideal.Value
public import proofs.«01_k».proof.Proof.Gen.Reference6Ideal.Read
public import Idealize.ShloMosaic.Lib.Pipeline.ValueKit
public import Idealize.ShloMosaic.Lib.Pointwise

@[expose] public section

set_option maxRecDepth 16384

noncomputable section

namespace Cert.UpValue

open Cert.Kernel6Ideal Cert.Kernel6Ideal.Gen Idealize.ShloMosaic Idealize.ShloMosaic.TcCoe Idealize.SL.Sem
open Cert.Reference6Ideal.Read

/-- Each window's block index at a point: rows by `t / 2`, columns by `t % 2`. -/
theorem idx : ∀ t : Fin cfg0.N, win0_0.index t = ![t.val / 2, 0] ∧ win0_1.index t = ![0, 0, t.val % 2]
    ∧ win0_2.index t = ![t.val / 2, t.val % 2] ∧ win0_3.index t = ![t.val / 2, t.val % 2] :=
  (by decide +kernel : ∀ t : Fin grid0.N, _)

variable (x0 : (⟨S8192x1024, .f32⟩ : BufTy).Contents (Elt Ideal)) (x1 : (⟨S1x1024x5632, .f32⟩ : BufTy).Contents (Elt Ideal))

/-- The up projection at row `r`, column `q`. -/
def up (r : Fin 8192) (q : Fin 5632) : EReal := ∑ k : Fin 1024, x0 (ix2 r k) * x1 (ix3 0 k q)

/-- The gate's logistic function, as the reference writes it. -/
def logi (g : EReal) : EReal := Ideal.div 1 (1 + Ideal.exp (-g))

/-- The gated unit of a gate and an up part. -/
def unit (g u : EReal) : EReal := g * logi g * u

theorem one_bits : (FloatOps.ofBits (F := Ideal) .f32 0x3F800000#32 : EReal) = 1 := by
  pointwise []

/-- The reference's projection. -/
theorem v1_at (i : S8192x5632.Idx) : val_main_v1 (F := Ideal) x0 x1 i = up x0 x1 (i 0) (i 1) := by
  pointwise [val_main_v1, val_main_v0]
  rfl

/-- Hidden unit `1408 b + q`'s gate is column `2816 b + q` of the projection, and its up part is 1408 columns further. -/
theorem gate_up (b q : ℕ) (hb : b < 2) (hq : q < 1408) (j : S8192x2816.Idx) (h : (j 1 : ℕ) = 1408 * b + q) :
    val_main_v4 (F := Ideal) x0 x1 j = val_main_v1 (F := Ideal) x0 x1 (ix2 (j 0) ⟨2816 * b + q, by omega⟩)
      ∧ val_main_v7 (F := Ideal) x0 x1 j = val_main_v1 (F := Ideal) x0 x1 (ix2 (j 0) ⟨2816 * b + q + 1408, by omega⟩) := by
  obtain rfl | rfl : b = 0 ∨ b = 1 := by omega
  all_goals
    constructor
    all_goals
      pointwise [val_main_v4, val_main_v2, val_main_v3, val_main_v7, val_main_v5, val_main_v6]
      simp (disch := omega) only [dif_pos, dif_neg]
      blk_ext []

/-- The reference's activation from its gate and its up part. -/
theorem v11_at (j : S8192x2816.Idx) : val_main_v11 (F := Ideal) x0 x1 j =
    unit (val_main_v4 (F := Ideal) x0 x1 j) (val_main_v7 (F := Ideal) x0 x1 j) := by
  simp only [val_main_v11_apply, val_main_v10_apply, val_main_v9_apply, val_main_call0_v5_apply, val_main_call0_v4_apply, val_main_call0_v3_apply,
    val_main_call0_v2_apply, val_main_call0_v1_apply, val_main_call0_v0_apply, val_main_call0_cst_apply, val_main_call0_cst_0_apply, one_bits]
  rfl

/-- What the body computes of its two blocks. -/
def prod (a : Vec Ideal S512x1024 .bf16) (b : Vec Ideal S1x1024x2816 .bf16) (r : Fin 512) (q : Fin 2816) : EReal :=
  ∑ k : Fin 1024, a (ix2 r k) * b (ix3 0 k q)

theorem pay1 (a : Vec Ideal S512x1024 .bf16) (b : Vec Ideal S1x1024x2816 .bf16) (y : S512x2816.Idx) :
    k0_pay1 (F := Ideal) a b y = prod a b (y 0) (y 1) := by
  pointwise [k0_pay1]
  rfl

theorem pay2 (a : Vec Ideal S512x1024 .bf16) (b : Vec Ideal S1x1024x2816 .bf16) (y : S512x1408.Idx) :
    k0_pay2 (F := Ideal) a b y = unit (prod a b (y 0) ⟨(y 1).val, (y 1).isLt.trans (by decide)⟩)
      (prod a b (y 0) ⟨1408 + (y 1).val, Nat.add_lt_add_left (y 1).isLt 1408⟩) := by
  pointwise [k0_pay2, pay1]
  rfl

variable (m : (ℓ : Loc nD τ sig) → Buf (Elt Ideal) ℓ)

/-- The kernel's projection is the reference's. -/
theorem final_gu (c : Dev nD) : (dats m 0 c).arrAt 2 cfg0.N
    = val_main_v8 (F := Ideal) (m ((c.tc : Thread nD τ).loc main_arg0)) (m ((c.tc : Thread nD τ).loc main_arg1)) := by
  refine (dats m 0 c).arrAt_eq_of_covers 2 _ (by decide +kernel) fun t hf y => ?_
  rw [after0_2]
  frame_out
  refine (pay1 _ _ _).trans (Eq.trans (Finset.sum_congr rfl fun k _ => ?_) (v1_at _ _ _).symm)
  blk_point [iblk, V, idx t] <;> omega

/-- The kernel's activation is the reference's. -/
theorem final_act (c : Dev nD) : (dats m 0 c).arrAt 3 cfg0.N
    = val_main_v11 (F := Ideal) (m ((c.tc : Thread nD τ).loc main_arg0)) (m ((c.tc : Thread nD τ).loc main_arg1)) := by
  refine (dats m 0 c).arrAt_eq_of_covers 3 _ (by decide +kernel) fun t hf y => ?_
  have e1 : ((((cfg0.win 3).blk t).view.emb y) 1 : ℕ) = 1408 * (t.val % 2) + (y 1).val := by
    blk_simp [idx t]
    simp
    omega
  have hy : (y 1).val < 1408 := (y 1).isLt
  rw [after0_3, v11_at, (gate_up _ _ (t.val % 2) (y 1) (by omega) hy _ e1).1, (gate_up _ _ (t.val % 2) (y 1) (by omega) hy _ e1).2, v1_at, v1_at]
  frame_out
  refine (pay2 _ _ _).trans (congr (congrArg unit (Finset.sum_congr rfl fun k _ => ?_)) (Finset.sum_congr rfl fun k _ => ?_))
  all_goals blk_point [iblk, V, idx t] <;> omega

end Cert.UpValue
end
-- ==== Proof.DownValue.lean ====
module

public import proofs.«01_k».proof.Proof.Gen.Kernel7Ideal.Value
public import proofs.«01_k».proof.Proof.Gen.Reference7Ideal.Read
public import Idealize.ShloMosaic.Lib.Pipeline.ValueKit
public import Idealize.ShloMosaic.Lib.Pointwise

@[expose] public section

set_option maxRecDepth 16384

noncomputable section

namespace Cert.DownValue

open Cert.Kernel7Ideal Cert.Kernel7Ideal.Gen Idealize.ShloMosaic Idealize.ShloMosaic.TcCoe Idealize.SL.Sem
open Cert.Reference7Ideal.Read

variable (m : (ℓ : Loc nD τ sig) → Buf (Elt Ideal) ℓ)

/-- Each window's block index at a point: rows by `t / 2`, the result's columns by `t % 2`. -/
theorem idx : ∀ t : Fin cfg0.N, win0_0.index t = ![t.val / 2, 0] ∧ win0_1.index t = ![0, 0, t.val % 2]
    ∧ win0_2.index t = ![t.val / 2, t.val % 2] :=
  (by decide +kernel : ∀ t : Fin grid0.N, _)

/-- What the body computes of two blocks. -/
theorem pay (a : Vec Ideal S1024x2816 .bf16) (b : Vec Ideal S1x2816x512 .bf16) (y : S1024x512.Idx) :
    k0_pay1 (F := Ideal) a b y = ∑ k : Fin 2816, (a (ix2 (y 0) k) * b (ix3 0 k (y 1)) : EReal) := by
  pointwise [k0_pay1]

/-- The reference's product at an element. -/
theorem v1_at (x0 : (⟨S8192x2816, .f32⟩ : BufTy).Contents (Elt Ideal)) (x1 : (⟨S1x2816x1024, .f32⟩ : BufTy).Contents (Elt Ideal)) (i : S8192x1024.Idx) :
    val_main_v1 (F := Ideal) x0 x1 i = ∑ k : Fin 2816, (x0 (ix2 (i 0) k) * x1 (ix3 0 k (i 1)) : EReal) := by
  pointwise [val_main_v1, val_main_v0]

/-- The kernel's array is the reference's. -/
theorem final (c : Dev nD) : (dats m 0 c).arrAt 2 cfg0.N
    = val_main_v1 (F := Ideal) (m ((c.tc : Thread nD τ).loc main_arg0)) (m ((c.tc : Thread nD τ).loc main_arg1)) := by
  refine (dats m 0 c).arrAt_eq_of_covers 2 _ (by decide +kernel) fun t hf y => ?_
  rw [after0_2]
  frame_out
  refine (pay _ _ _).trans (Eq.trans (Finset.sum_congr rfl fun k _ => ?_) (v1_at _ _ _).symm)
  blk_point [iblk, V, idx t] <;> omega

end Cert.DownValue
end
-- ==== Proof.GmlpInValue.lean ====
module

public import proofs.«01_k».proof.Proof.Gen.Kernel8Ideal.Value
public import proofs.«01_k».proof.Proof.Gen.Reference8Ideal.Read
public import Idealize.ShloMosaic.Lib.Pipeline.ValueKit
public import Idealize.ShloMosaic.Lib.Pointwise

@[expose] public section

set_option maxRecDepth 16384

noncomputable section

namespace Cert.GmlpInValue

open Cert.Kernel8Ideal Cert.Kernel8Ideal.Gen Idealize.ShloMosaic Idealize.ShloMosaic.TcCoe Idealize.SL.Sem
open Cert.Reference8Ideal.Read

variable (m : (ℓ : Loc nD τ sig) → Buf (Elt Ideal) ℓ)

/-- Each window's block index at a point: rows by `t / 4`, the result's columns by `t % 4`. -/
theorem idx : ∀ t : Fin cfg0.N, win0_0.index t = ![t.val / 4, 0] ∧ win0_1.index t = ![0, 0, t.val % 4]
    ∧ win0_2.index t = ![t.val / 4, t.val % 4] :=
  (by decide +kernel : ∀ t : Fin grid0.N, _)

/-- What the body computes of two blocks. -/
theorem pay (a : Vec Ideal S1024x1024 .bf16) (b : Vec Ideal S1x1024x1024 .bf16) (y : S1024x1024.Idx) :
    k0_pay1 (F := Ideal) a b y = ∑ k : Fin 1024, (a (ix2 (y 0) k) * b (ix3 0 k (y 1)) : EReal) := by
  pointwise [k0_pay1]

/-- The reference's product at an element. -/
theorem v2_at (x0 : (⟨S8192x1024, .f32⟩ : BufTy).Contents (Elt Ideal)) (x1 : (⟨S1x1024x4096, .f32⟩ : BufTy).Contents (Elt Ideal)) (i : S8192x4096.Idx) :
    val_main_v2 (F := Ideal) x0 x1 i = ∑ k : Fin 1024, (x0 (ix2 (i 0) k) * x1 (ix3 0 k (i 1)) : EReal) := by
  pointwise [val_main_v2, val_main_v1, val_main_v0]

/-- The kernel's array is the reference's. -/
theorem final (c : Dev nD) : (dats m 0 c).arrAt 2 cfg0.N
    = val_main_v2 (F := Ideal) (m ((c.tc : Thread nD τ).loc main_arg0)) (m ((c.tc : Thread nD τ).loc main_arg1)) := by
  refine (dats m 0 c).arrAt_eq_of_covers 2 _ (by decide +kernel) fun t hf y => ?_
  rw [after0_2]
  frame_out
  refine (pay _ _ _).trans (Eq.trans (Finset.sum_congr rfl fun k _ => ?_) (v2_at _ _ _).symm)
  blk_point [iblk, V, idx t] <;> omega

end Cert.GmlpInValue
end
-- ==== Proof.GmlpOutValue.lean ====
module

public import proofs.«01_k».proof.Proof.Gen.Kernel9Ideal.Value
public import proofs.«01_k».proof.Proof.Gen.Reference9Ideal.Read
public import Idealize.ShloMosaic.Lib.Pipeline.ValueKit
public import Idealize.ShloMosaic.Lib.Pointwise

@[expose] public section

set_option maxRecDepth 16384

noncomputable section

namespace Cert.GmlpOutValue

open Cert.Kernel9Ideal Cert.Kernel9Ideal.Gen Idealize.ShloMosaic Idealize.ShloMosaic.TcCoe Idealize.SL.Sem
open Cert.Reference9Ideal.Read

variable (m : (ℓ : Loc nD τ sig) → Buf (Elt Ideal) ℓ)

/-- Each window's block index at a point: rows by `t / 2`, the result's columns by `t % 2`. -/
theorem idx : ∀ t : Fin cfg0.N, win0_0.index t = ![t.val / 2, 0] ∧ win0_1.index t = ![0, 0, t.val % 2]
    ∧ win0_2.index t = ![t.val / 2, t.val % 2] :=
  (by decide +kernel : ∀ t : Fin grid0.N, _)

/-- What the body computes of two blocks. -/
theorem pay (a : Vec Ideal S1024x2048 .bf16) (b : Vec Ideal S1x2048x512 .bf16) (y : S1024x512.Idx) :
    k0_pay1 (F := Ideal) a b y = ∑ k : Fin 2048, (a (ix2 (y 0) k) * b (ix3 0 k (y 1)) : EReal) := by
  pointwise [k0_pay1]

/-- The reference's product at an element. -/
theorem v1_at (x0 : (⟨S8192x2048, .f32⟩ : BufTy).Contents (Elt Ideal)) (x1 : (⟨S1x2048x1024, .f32⟩ : BufTy).Contents (Elt Ideal)) (i : S8192x1024.Idx) :
    val_main_v1 (F := Ideal) x0 x1 i = ∑ k : Fin 2048, (x0 (ix2 (i 0) k) * x1 (ix3 0 k (i 1)) : EReal) := by
  pointwise [val_main_v1, val_main_v0]

/-- The kernel's array is the reference's. -/
theorem final (c : Dev nD) : (dats m 0 c).arrAt 2 cfg0.N
    = val_main_v1 (F := Ideal) (m ((c.tc : Thread nD τ).loc main_arg0)) (m ((c.tc : Thread nD τ).loc main_arg1)) := by
  refine (dats m 0 c).arrAt_eq_of_covers 2 _ (by decide +kernel) fun t hf y => ?_
  rw [after0_2]
  frame_out
  refine (pay _ _ _).trans (Eq.trans (Finset.sum_congr rfl fun k _ => ?_) (v1_at _ _ _).symm)
  blk_point [iblk, V, idx t] <;> omega

end Cert.GmlpOutValue
end
-- ==== Proof.GmlpOutDwValue.lean ====
module

public import proofs.«01_k».proof.Proof.Gen.Kernel10Ideal.Value
public import proofs.«01_k».proof.Proof.Gen.Reference10Ideal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.GmlpOutDwValue

open Cert.Kernel10Ideal Cert.Kernel10Ideal.Gen Idealize.ShloMosaic Idealize.ShloMosaic.TcCoe Idealize.SL.Sem
open Cert.Reference10Ideal.Read

variable (m : (ℓ : Loc nD τ sig) → Buf (Elt Ideal) ℓ)

/-- Each window's block index at a point: the first operand's columns, the second's columns, and the contracted rows by `t % 4`. -/
theorem idx : ∀ t : Fin cfg0.N, win0_0.index t = ![t.val % 4, t.val / 8] ∧ win0_1.index t = ![t.val % 4, t.val / 4 % 2]
    ∧ win0_2.index t = ![t.val / 8, t.val / 4 % 2] :=
  (by decide +kernel : ∀ t : Fin grid0.N, _)

/-- The product of two blocks over their rows, at an element. -/
def prod (a : Vec Ideal S2048x1024 .bf16) (b : Vec Ideal S2048x512 .bf16) (y : S1024x512.Idx) : EReal :=
  ∑ k : Fin 2048, a (ix2 k (y 0)) * b (ix2 k (y 1))

/-- What the body computes of two blocks. -/
theorem pay (a : Vec Ideal S2048x1024 .bf16) (b : Vec Ideal S2048x512 .bf16) (y : S1024x512.Idx) :
    k0_pay1 (F := Ideal) a b y = prod a b y := by
  pointwise [k0_pay1, prod]

/-- A point's part of the product. -/
def part (c : Dev nD) (t : Fin cfg0.N) (y : S1024x512.Idx) : EReal := prod (iblk m c 0 t) (iblk m c 1 t) y

/-- The first block of a run is written to the accumulator. -/
theorem acc_first (c : Dev nD) (t : Fin cfg0.N) (h : t.val % 4 = 0) (y : S1024x512.Idx) :
    (outsAt0 m c t.val t.isLt).2 y = 0 + part m c t y := by
  rw [outsAt0_A m c t h (by omega) (by omega), zero_add]
  frame_out
  unfold k0_pay2
  rw [shapeCast_self]
  exact pay _ _ y

/-- Every later block is added to it. -/
theorem acc_next (c : Dev nD) (t : Fin cfg0.N) (h : ¬t.val % 4 = 0) (y : S1024x512.Idx) :
    (outsAt0 m c t.val t.isLt).2 y = (outsAt0 m c (t.val - 1) (Nat.lt_of_le_of_lt (Nat.sub_le _ _) t.isLt)).2 y + part m c t y := by
  by_cases hl : t.val % 4 = 3
  on_goal 1 => rw [outsAt0_C m c t h (by omega) hl]
  on_goal 2 => rw [outsAt0_B m c t h (by omega) hl]
  all_goals
    generalize (outsAt0 m c (t.val - 1) (Nat.lt_of_le_of_lt (Nat.sub_le _ _) t.isLt)).2 = A
    frame_out
    simp only [read_unread_whole]
    unfold k0_pay3
    rw [shapeCast_self]
    exact congrArg (A y + ·) (pay _ _ y)

/-- At the last block the accumulator is written out. -/
theorem out_last (c : Dev nD) (t : Fin cfg0.N) (h : t.val % 4 = 3) (y : S1024x512.Idx) :
    (outsAt0 m c t.val t.isLt).1 y = (outsAt0 m c t.val t.isLt).2 y := by
  rw [outsAt0_C m c t (by omega) (by omega) h]
  generalize (outsAt0 m c (t.val - 1) (Nat.lt_of_le_of_lt (Nat.sub_le _ _) t.isLt)).2 = A
  frame_out
  rfl

/-- The kernel's array is the reference's. -/
theorem final (c : Dev nD) : (dats m 0 c).arrAt 2 cfg0.N
    = val_main_v4 (F := Ideal) (m ((c.tc : Thread nD τ).loc main_arg0)) (m ((c.tc : Thread nD τ).loc main_arg1)) := by
  refine (dats m 0 c).arrAt_eq_of_covers 2 _ (by decide +kernel) fun t hf y => ?_
  have hl := (flush0_2 t).mp hf
  rw [after0_2]
  refine (out_last m c t hl _).trans ((Pipeline.eq_sum_fin_of_reset_step_apply_of_flush (fun n h => (outsAt0 m c n h).2) 4 (fun _ => 0) (part m c)
    (acc_first m c) (acc_next m c) t hl _).trans ?_)
  rw [zero_add]
  pointwise [val_main_v4, val_main_v3, val_main_v2]
  simp only [part, prod]
  refine Fin.sum_mul_add_congr fun s k hk => ?_
  rw [mul_comm]
  blk_point [iblk, V, idx t, idx ⟨_, Pipeline.run_point_lt_of_flush t hl s⟩] <;> omega

end Cert.GmlpOutDwValue
end
-- ==== Proof.GmlpOutDxValue.lean ====
module

public import proofs.«01_k».proof.Proof.Gen.Kernel11Ideal.Value
public import proofs.«01_k».proof.Proof.Gen.Reference11Ideal.Read
public import Idealize.ShloMosaic.Lib.Pipeline.ValueKit
public import Idealize.ShloMosaic.Lib.Pointwise

@[expose] public section

set_option maxRecDepth 16384

noncomputable section

namespace Cert.GmlpOutDxValue

open Cert.Kernel11Ideal Cert.Kernel11Ideal.Gen Idealize.ShloMosaic Idealize.ShloMosaic.TcCoe Idealize.SL.Sem
open Cert.Reference11Ideal.Read

variable (m : (ℓ : Loc nD τ sig) → Buf (Elt Ideal) ℓ)

/-- Each window's block index at a point: rows by `t / 2`, the result's columns by `t % 2`. -/
theorem idx : ∀ t : Fin cfg0.N, win0_0.index t = ![t.val / 2, 0] ∧ win0_1.index t = ![0, t.val % 2, 0]
    ∧ win0_2.index t = ![t.val / 2, t.val % 2] :=
  (by decide +kernel : ∀ t : Fin grid0.N, _)

/-- What the body computes of two blocks. -/
theorem pay (a : Vec Ideal S1024x1024 .bf16) (b : Vec Ideal S1x1024x1024 .bf16) (y : S1024x1024.Idx) :
    k0_pay1 (F := Ideal) a b y = ∑ k : Fin 1024, (a (ix2 (y 0) k) * b (ix3 0 (y 1) k) : EReal) := by
  pointwise [k0_pay1]

/-- The reference's product at an element. -/
theorem v4_at (x0 : (⟨S8192x1024, .f32⟩ : BufTy).Contents (Elt Ideal)) (x1 : (⟨S1x2048x1024, .f32⟩ : BufTy).Contents (Elt Ideal)) (i : S8192x2048.Idx) :
    val_main_v4 (F := Ideal) x0 x1 i = ∑ k : Fin 1024, (x0 (ix2 (i 0) k) * x1 (ix3 0 (i 1) k) : EReal) := by
  pointwise [val_main_v4, val_main_v3, val_main_v1]

/-- The kernel's array is the reference's. -/
theorem final (c : Dev nD) : (dats m 0 c).arrAt 2 cfg0.N
    = val_main_v4 (F := Ideal) (m ((c.tc : Thread nD τ).loc main_arg0)) (m ((c.tc : Thread nD τ).loc main_arg1)) := by
  refine (dats m 0 c).arrAt_eq_of_covers 2 _ (by decide +kernel) fun t hf y => ?_
  rw [after0_2]
  frame_out
  refine (pay _ _ _).trans (Eq.trans (Finset.sum_congr rfl fun k _ => ?_) (v4_at _ _ _).symm)
  blk_point [iblk, V, idx t] <;> omega

end Cert.GmlpOutDxValue
end
-- ==== Proof.GmlpInDwValue.lean ====
module

public import proofs.«01_k».proof.Proof.Gen.Kernel12Ideal.Value
public import proofs.«01_k».proof.Proof.Gen.Reference12Ideal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.GmlpInDwValue

open Cert.Kernel12Ideal Cert.Kernel12Ideal.Gen Idealize.ShloMosaic Idealize.ShloMosaic.TcCoe Idealize.SL.Sem
open Cert.Reference12Ideal.Read

variable (m : (ℓ : Loc nD τ sig) → Buf (Elt Ideal) ℓ)

/-- Each window's block index at a point: the first operand's columns, the second's columns, and the contracted rows by `t % 4`. -/
theorem idx : ∀ t : Fin cfg0.N, win0_0.index t = ![t.val % 4, 0] ∧ win0_1.index t = ![t.val % 4, t.val / 4]
    ∧ win0_2.index t = ![0, t.val / 4] :=
  (by decide +kernel : ∀ t : Fin grid0.N, _)

/-- The product of two blocks over their rows, at an element. -/
def prod (a : Vec Ideal S2048x1024 .bf16) (b : Vec Ideal S2048x512 .bf16) (y : S1024x512.Idx) : EReal :=
  ∑ k : Fin 2048, a (ix2 k (y 0)) * b (ix2 k (y 1))

/-- What the body computes of two blocks. -/
theorem pay (a : Vec Ideal S2048x1024 .bf16) (b : Vec Ideal S2048x512 .bf16) (y : S1024x512.Idx) :
    k0_pay1 (F := Ideal) a b y = prod a b y := by
  pointwise [k0_pay1, prod]

/-- A point's part of the product. -/
def part (c : Dev nD) (t : Fin cfg0.N) (y : S1024x512.Idx) : EReal := prod (iblk m c 0 t) (iblk m c 1 t) y

/-- The first block of a run is written to the accumulator. -/
theorem acc_first (c : Dev nD) (t : Fin cfg0.N) (h : t.val % 4 = 0) (y : S1024x512.Idx) :
    (outsAt0 m c t.val t.isLt).2 y = 0 + part m c t y := by
  rw [outsAt0_A m c t h (by omega) (by omega), zero_add]
  frame_out
  unfold k0_pay2
  rw [shapeCast_self]
  exact pay _ _ y

/-- Every later block is added to it. -/
theorem acc_next (c : Dev nD) (t : Fin cfg0.N) (h : ¬t.val % 4 = 0) (y : S1024x512.Idx) :
    (outsAt0 m c t.val t.isLt).2 y = (outsAt0 m c (t.val - 1) (Nat.lt_of_le_of_lt (Nat.sub_le _ _) t.isLt)).2 y + part m c t y := by
  by_cases hl : t.val % 4 = 3
  on_goal 1 => rw [outsAt0_C m c t h (by omega) hl]
  on_goal 2 => rw [outsAt0_B m c t h (by omega) hl]
  all_goals
    generalize (outsAt0 m c (t.val - 1) (Nat.lt_of_le_of_lt (Nat.sub_le _ _) t.isLt)).2 = A
    frame_out
    simp only [read_unread_whole]
    unfold k0_pay3
    rw [shapeCast_self]
    exact congrArg (A y + ·) (pay _ _ y)

/-- At the last block the accumulator is written out. -/
theorem out_last (c : Dev nD) (t : Fin cfg0.N) (h : t.val % 4 = 3) (y : S1024x512.Idx) :
    (outsAt0 m c t.val t.isLt).1 y = (outsAt0 m c t.val t.isLt).2 y := by
  rw [outsAt0_C m c t (by omega) (by omega) h]
  generalize (outsAt0 m c (t.val - 1) (Nat.lt_of_le_of_lt (Nat.sub_le _ _) t.isLt)).2 = A
  frame_out
  rfl

/-- The kernel's array is the reference's. -/
theorem final (c : Dev nD) : (dats m 0 c).arrAt 2 cfg0.N
    = val_main_v4 (F := Ideal) (m ((c.tc : Thread nD τ).loc main_arg0)) (m ((c.tc : Thread nD τ).loc main_arg1)) := by
  refine (dats m 0 c).arrAt_eq_of_covers 2 _ (by decide +kernel) fun t hf y => ?_
  have hl := (flush0_2 t).mp hf
  rw [after0_2]
  refine (out_last m c t hl _).trans ((Pipeline.eq_sum_fin_of_reset_step_apply_of_flush (fun n h => (outsAt0 m c n h).2) 4 (fun _ => 0) (part m c)
    (acc_first m c) (acc_next m c) t hl _).trans ?_)
  rw [zero_add]
  pointwise [val_main_v4, val_main_v3, val_main_v2]
  simp only [part, prod]
  refine Fin.sum_mul_add_congr fun s k hk => ?_
  rw [mul_comm]
  blk_point [iblk, V, idx t, idx ⟨_, Pipeline.run_point_lt_of_flush t hl s⟩] <;> omega

end Cert.GmlpInDwValue
end
-- ==== Proof.GmlpInDxValue.lean ====
module

public import proofs.«01_k».proof.Proof.Gen.Kernel13Ideal.Value
public import proofs.«01_k».proof.Proof.Gen.Reference13Ideal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.GmlpInDxValue

open Cert.Kernel13Ideal Cert.Kernel13Ideal.Gen Idealize.ShloMosaic Idealize.ShloMosaic.TcCoe Idealize.SL.Sem
open Cert.Reference13Ideal.Read

variable (m : (ℓ : Loc nD τ sig) → Buf (Elt Ideal) ℓ)

/-- Each window's block index at a point: rows by `t / 4`, columns of the result by `t / 2 % 2`, the contracted columns by `t % 2`. -/
theorem idx : ∀ t : Fin cfg0.N, win0_0.index t = ![t.val / 4, t.val % 2] ∧ win0_1.index t = ![0, t.val / 2 % 2, t.val % 2]
    ∧ win0_2.index t = ![t.val / 4, t.val / 2 % 2] :=
  (by decide +kernel : ∀ t : Fin grid0.N, _)

/-- The product of two blocks, at an element. -/
def prod (a : Vec Ideal S1024x2048 .bf16) (b : Vec Ideal S1x512x2048 .bf16) (y : S1024x512.Idx) : EReal :=
  ∑ k : Fin 2048, a (ix2 (y 0) k) * b (ix3 0 (y 1) k)

/-- What the body computes of two blocks. -/
theorem pay (a : Vec Ideal S1024x2048 .bf16) (b : Vec Ideal S1x512x2048 .bf16) (y : S1024x512.Idx) :
    k0_pay1 (F := Ideal) a b y = prod a b y := by
  pointwise [k0_pay1, prod]

/-- A point's part of the product. -/
def part (c : Dev nD) (t : Fin cfg0.N) (y : S1024x512.Idx) : EReal := prod (iblk m c 0 t) (iblk m c 1 t) y

/-- The first block of a run is written to the accumulator. -/
theorem acc_first (c : Dev nD) (t : Fin cfg0.N) (h : t.val % 2 = 0) (y : S1024x512.Idx) :
    (outsAt0 m c t.val t.isLt).2 y = 0 + part m c t y := by
  rw [outsAt0_A m c t h (by omega) (by omega), zero_add]
  frame_out
  unfold k0_pay2
  rw [shapeCast_self]
  exact pay _ _ y

/-- Every later block is added to it. -/
theorem acc_next (c : Dev nD) (t : Fin cfg0.N) (h : ¬t.val % 2 = 0) (y : S1024x512.Idx) :
    (outsAt0 m c t.val t.isLt).2 y = (outsAt0 m c (t.val - 1) (Nat.lt_of_le_of_lt (Nat.sub_le _ _) t.isLt)).2 y + part m c t y := by
  rw [outsAt0_B m c t h (by omega) (by omega)]
  generalize (outsAt0 m c (t.val - 1) (Nat.lt_of_le_of_lt (Nat.sub_le _ _) t.isLt)).2 = A
  frame_out
  simp only [read_unread_whole]
  unfold k0_pay3
  rw [shapeCast_self]
  exact congrArg (A y + ·) (pay _ _ y)

/-- At the last block the accumulator is written out. -/
theorem out_last (c : Dev nD) (t : Fin cfg0.N) (h : t.val % 2 = 1) (y : S1024x512.Idx) :
    (outsAt0 m c t.val t.isLt).1 y = (outsAt0 m c t.val t.isLt).2 y := by
  rw [outsAt0_B m c t (by omega) h h]
  generalize (outsAt0 m c (t.val - 1) (Nat.lt_of_le_of_lt (Nat.sub_le _ _) t.isLt)).2 = A
  frame_out

/-- The kernel's array is the reference's. -/
theorem final (c : Dev nD) : (dats m 0 c).arrAt 2 cfg0.N
    = val_main_v3 (F := Ideal) (m ((c.tc : Thread nD τ).loc main_arg0)) (m ((c.tc : Thread nD τ).loc main_arg1)) := by
  refine (dats m 0 c).arrAt_eq_of_covers 2 _ (by decide +kernel) fun t hf y => ?_
  have hl := (flush0_2 t).mp hf
  rw [after0_2]
  refine (out_last m c t hl _).trans ((Pipeline.eq_sum_fin_of_reset_step_apply_of_flush (fun n h => (outsAt0 m c n h).2) 2 (fun _ => 0) (part m c)
    (acc_first m c) (acc_next m c) t hl _).trans ?_)
  rw [zero_add]
  pointwise [val_main_v3, val_main_v1]
  simp only [part, prod]
  refine Fin.sum_mul_add_congr fun s k hk => ?_
  blk_point [iblk, V, idx t, idx ⟨_, Pipeline.run_point_lt_of_flush t hl s⟩] <;> omega

end Cert.GmlpInDxValue
end
-- ==== Proof.FoxQgValue.lean ====
module

public import proofs.«01_k».proof.Proof.Gen.Kernel14Ideal.Value
public import proofs.«01_k».proof.Proof.Gen.Reference14Ideal.Read
public import Idealize.ShloMosaic.Lib.Pipeline.ValueKit
public import Idealize.ShloMosaic.Lib.Pointwise

@[expose] public section

set_option maxRecDepth 16384

noncomputable section

namespace Cert.FoxQgValue

open Cert.Kernel14Ideal Cert.Kernel14Ideal.Gen Idealize.ShloMosaic Idealize.ShloMosaic.TcCoe Idealize.SL.Sem
open Cert.Reference14Ideal.Read

variable (m : (ℓ : Loc nD τ sig) → Buf (Elt Ideal) ℓ)

/-- Each window's block index at a point: rows by `t / 2`, the result's columns by `t % 2`. -/
theorem idx : ∀ t : Fin cfg0.N, win0_0.index t = ![t.val / 2, 0] ∧ win0_1.index t = ![0, 0, t.val % 2]
    ∧ win0_2.index t = ![t.val / 2, t.val % 2] :=
  (by decide +kernel : ∀ t : Fin grid0.N, _)

/-- What the body computes of two blocks. -/
theorem pay (a : Vec Ideal S1024x1024 .bf16) (b : Vec Ideal S1x1024x1024 .bf16) (y : S1024x1024.Idx) :
    k0_pay1 (F := Ideal) a b y = ∑ k : Fin 1024, (a (ix2 (y 0) k) * b (ix3 0 k (y 1)) : EReal) := by
  pointwise [k0_pay1]

/-- The reference's product at an element. -/
theorem v2_at (x0 : (⟨S8192x1024, .f32⟩ : BufTy).Contents (Elt Ideal)) (x1 : (⟨S1x1024x2048, .f32⟩ : BufTy).Contents (Elt Ideal)) (i : S8192x2048.Idx) :
    val_main_v2 (F := Ideal) x0 x1 i = ∑ k : Fin 1024, (x0 (ix2 (i 0) k) * x1 (ix3 0 k (i 1)) : EReal) := by
  pointwise [val_main_v2, val_main_v1, val_main_v0]

/-- The kernel's array is the reference's. -/
theorem final (c : Dev nD) : (dats m 0 c).arrAt 2 cfg0.N
    = val_main_v2 (F := Ideal) (m ((c.tc : Thread nD τ).loc main_arg0)) (m ((c.tc : Thread nD τ).loc main_arg1)) := by
  refine (dats m 0 c).arrAt_eq_of_covers 2 _ (by decide +kernel) fun t hf y => ?_
  rw [after0_2]
  frame_out
  refine (pay _ _ _).trans (Eq.trans (Finset.sum_congr rfl fun k _ => ?_) (v2_at _ _ _).symm)
  blk_point [iblk, V, idx t] <;> omega

end Cert.FoxQgValue
end
-- ==== Proof.FoxOutValue.lean ====
module

public import proofs.«01_k».proof.Proof.Gen.Kernel15Ideal.Value
public import proofs.«01_k».proof.Proof.Gen.Reference15Ideal.Read
public import Idealize.ShloMosaic.Lib.Pipeline.ValueKit
public import Idealize.ShloMosaic.Lib.Pointwise

@[expose] public section

set_option maxRecDepth 16384

noncomputable section

namespace Cert.FoxOutValue

open Cert.Kernel15Ideal Cert.Kernel15Ideal.Gen Idealize.ShloMosaic Idealize.ShloMosaic.TcCoe Idealize.SL.Sem
open Cert.Reference15Ideal.Read

variable (m : (ℓ : Loc nD τ sig) → Buf (Elt Ideal) ℓ)

/-- Each window's block index at a point: the row blocks follow the points. -/
theorem idx : ∀ t : Fin cfg0.N, win0_0.index t = ![t.val, 0] ∧ win0_1.index t = ![0, 0, 0]
    ∧ win0_2.index t = ![t.val, 0] :=
  (by decide +kernel : ∀ t : Fin grid0.N, _)

/-- What the body computes of two blocks. -/
theorem pay (a : Vec Ideal S1024x1024 .bf16) (b : Vec Ideal S1x1024x1024 .bf16) (y : S1024x1024.Idx) :
    k0_pay1 (F := Ideal) a b y = ∑ k : Fin 1024, (a (ix2 (y 0) k) * b (ix3 0 k (y 1)) : EReal) := by
  pointwise [k0_pay1]

/-- The reference's product at an element. -/
theorem v1_at (x0 : (⟨S8192x1024, .f32⟩ : BufTy).Contents (Elt Ideal)) (x1 : (⟨S1x1024x1024, .f32⟩ : BufTy).Contents (Elt Ideal)) (i : S8192x1024.Idx) :
    val_main_v1 (F := Ideal) x0 x1 i = ∑ k : Fin 1024, (x0 (ix2 (i 0) k) * x1 (ix3 0 k (i 1)) : EReal) := by
  pointwise [val_main_v1, val_main_v0]

/-- The kernel's array is the reference's. -/
theorem final (c : Dev nD) : (dats m 0 c).arrAt 2 cfg0.N
    = val_main_v1 (F := Ideal) (m ((c.tc : Thread nD τ).loc main_arg0)) (m ((c.tc : Thread nD τ).loc main_arg1)) := by
  refine (dats m 0 c).arrAt_eq_of_covers 2 _ (by decide +kernel) fun t hf y => ?_
  rw [after0_2]
  frame_out
  refine (pay _ _ _).trans (Eq.trans (Finset.sum_congr rfl fun k _ => ?_) (v1_at _ _ _).symm)
  blk_point [iblk, V, idx t] <;> omega

end Cert.FoxOutValue
end
-- ==== Proof.FoxOutDwValue.lean ====
module

public import proofs.«01_k».proof.Proof.Gen.Kernel16Ideal.Value
public import proofs.«01_k».proof.Proof.Gen.Reference16Ideal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.FoxOutDwValue

open Cert.Kernel16Ideal Cert.Kernel16Ideal.Gen Idealize.ShloMosaic Idealize.ShloMosaic.TcCoe Idealize.SL.Sem
open Cert.Reference16Ideal.Read

variable (m : (ℓ : Loc nD τ sig) → Buf (Elt Ideal) ℓ)

/-- Each window's block index at a point: the first operand's columns, the second's columns, and the contracted rows by `t % 4`. -/
theorem idx : ∀ t : Fin cfg0.N, win0_0.index t = ![t.val % 4, 0] ∧ win0_1.index t = ![t.val % 4, t.val / 4]
    ∧ win0_2.index t = ![0, t.val / 4] :=
  (by decide +kernel : ∀ t : Fin grid0.N, _)

/-- The product of two blocks over their rows, at an element. -/
def prod (a : Vec Ideal S2048x1024 .bf16) (b : Vec Ideal S2048x512 .bf16) (y : S1024x512.Idx) : EReal :=
  ∑ k : Fin 2048, a (ix2 k (y 0)) * b (ix2 k (y 1))

/-- What the body computes of two blocks. -/
theorem pay (a : Vec Ideal S2048x1024 .bf16) (b : Vec Ideal S2048x512 .bf16) (y : S1024x512.Idx) :
    k0_pay1 (F := Ideal) a b y = prod a b y := by
  pointwise [k0_pay1, prod]

/-- A point's part of the product. -/
def part (c : Dev nD) (t : Fin cfg0.N) (y : S1024x512.Idx) : EReal := prod (iblk m c 0 t) (iblk m c 1 t) y

/-- The first block of a run is written to the accumulator. -/
theorem acc_first (c : Dev nD) (t : Fin cfg0.N) (h : t.val % 4 = 0) (y : S1024x512.Idx) :
    (outsAt0 m c t.val t.isLt).2 y = 0 + part m c t y := by
  rw [outsAt0_A m c t h (by omega) (by omega), zero_add]
  frame_out
  unfold k0_pay2
  rw [shapeCast_self]
  exact pay _ _ y

/-- Every later block is added to it. -/
theorem acc_next (c : Dev nD) (t : Fin cfg0.N) (h : ¬t.val % 4 = 0) (y : S1024x512.Idx) :
    (outsAt0 m c t.val t.isLt).2 y = (outsAt0 m c (t.val - 1) (Nat.lt_of_le_of_lt (Nat.sub_le _ _) t.isLt)).2 y + part m c t y := by
  by_cases hl : t.val % 4 = 3
  on_goal 1 => rw [outsAt0_C m c t h (by omega) hl]
  on_goal 2 => rw [outsAt0_B m c t h (by omega) hl]
  all_goals
    generalize (outsAt0 m c (t.val - 1) (Nat.lt_of_le_of_lt (Nat.sub_le _ _) t.isLt)).2 = A
    frame_out
    simp only [read_unread_whole]
    unfold k0_pay3
    rw [shapeCast_self]
    exact congrArg (A y + ·) (pay _ _ y)

/-- At the last block the accumulator is written out. -/
theorem out_last (c : Dev nD) (t : Fin cfg0.N) (h : t.val % 4 = 3) (y : S1024x512.Idx) :
    (outsAt0 m c t.val t.isLt).1 y = (outsAt0 m c t.val t.isLt).2 y := by
  rw [outsAt0_C m c t (by omega) (by omega) h]
  generalize (outsAt0 m c (t.val - 1) (Nat.lt_of_le_of_lt (Nat.sub_le _ _) t.isLt)).2 = A
  frame_out
  rfl

/-- The kernel's array is the reference's. -/
theorem final (c : Dev nD) : (dats m 0 c).arrAt 2 cfg0.N
    = val_main_v4 (F := Ideal) (m ((c.tc : Thread nD τ).loc main_arg0)) (m ((c.tc : Thread nD τ).loc main_arg1)) := by
  refine (dats m 0 c).arrAt_eq_of_covers 2 _ (by decide +kernel) fun t hf y => ?_
  have hl := (flush0_2 t).mp hf
  rw [after0_2]
  refine (out_last m c t hl _).trans ((Pipeline.eq_sum_fin_of_reset_step_apply_of_flush (fun n h => (outsAt0 m c n h).2) 4 (fun _ => 0) (part m c)
    (acc_first m c) (acc_next m c) t hl _).trans ?_)
  rw [zero_add]
  pointwise [val_main_v4, val_main_v3, val_main_v2]
  simp only [part, prod]
  refine Fin.sum_mul_add_congr fun s k hk => ?_
  rw [mul_comm]
  blk_point [iblk, V, idx t, idx ⟨_, Pipeline.run_point_lt_of_flush t hl s⟩] <;> omega

end Cert.FoxOutDwValue
end
-- ==== Proof.FoxOutDxValue.lean ====
module

public import proofs.«01_k».proof.Proof.Gen.Kernel17Ideal.Value
public import proofs.«01_k».proof.Proof.Gen.Reference17Ideal.Read
public import Idealize.ShloMosaic.Lib.Pipeline.ValueKit
public import Idealize.ShloMosaic.Lib.Pointwise

@[expose] public section

set_option maxRecDepth 16384

noncomputable section

namespace Cert.FoxOutDxValue

open Cert.Kernel17Ideal Cert.Kernel17Ideal.Gen Idealize.ShloMosaic Idealize.ShloMosaic.TcCoe Idealize.SL.Sem
open Cert.Reference17Ideal.Read

variable (m : (ℓ : Loc nD τ sig) → Buf (Elt Ideal) ℓ)

/-- Each window's block index at a point: the row blocks follow the points. -/
theorem idx : ∀ t : Fin cfg0.N, win0_0.index t = ![t.val, 0] ∧ win0_1.index t = ![0, 0, 0]
    ∧ win0_2.index t = ![t.val, 0] :=
  (by decide +kernel : ∀ t : Fin grid0.N, _)

/-- What the body computes of two blocks. -/
theorem pay (a : Vec Ideal S1024x1024 .bf16) (b : Vec Ideal S1x1024x1024 .bf16) (y : S1024x1024.Idx) :
    k0_pay1 (F := Ideal) a b y = ∑ k : Fin 1024, (a (ix2 (y 0) k) * b (ix3 0 (y 1) k) : EReal) := by
  pointwise [k0_pay1]

/-- The reference's product at an element. -/
theorem v3_at (x0 : (⟨S8192x1024, .f32⟩ : BufTy).Contents (Elt Ideal)) (x1 : (⟨S1x1024x1024, .f32⟩ : BufTy).Contents (Elt Ideal)) (i : S8192x1024.Idx) :
    val_main_v3 (F := Ideal) x0 x1 i = ∑ k : Fin 1024, (x0 (ix2 (i 0) k) * x1 (ix3 0 (i 1) k) : EReal) := by
  pointwise [val_main_v3, val_main_v1]

/-- The kernel's array is the reference's. -/
theorem final (c : Dev nD) : (dats m 0 c).arrAt 2 cfg0.N
    = val_main_v3 (F := Ideal) (m ((c.tc : Thread nD τ).loc main_arg0)) (m ((c.tc : Thread nD τ).loc main_arg1)) := by
  refine (dats m 0 c).arrAt_eq_of_covers 2 _ (by decide +kernel) fun t hf y => ?_
  rw [after0_2]
  frame_out
  refine (pay _ _ _).trans (Eq.trans (Finset.sum_congr rfl fun k _ => ?_) (v3_at _ _ _).symm)
  blk_point [iblk, V, idx t] <;> omega

end Cert.FoxOutDxValue
end
-- ==== Proof.FoxQgDwValue.lean ====
module

public import proofs.«01_k».proof.Proof.Gen.Kernel18Ideal.Value
public import proofs.«01_k».proof.Proof.Gen.Reference18Ideal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.FoxQgDwValue

open Cert.Kernel18Ideal Cert.Kernel18Ideal.Gen Idealize.ShloMosaic Idealize.ShloMosaic.TcCoe Idealize.SL.Sem
open Cert.Reference18Ideal.Read

variable (m : (ℓ : Loc nD τ sig) → Buf (Elt Ideal) ℓ)

/-- Each window's block index at a point: the first operand's columns, the second's columns, and the contracted rows by `t % 4`. -/
theorem idx : ∀ t : Fin cfg0.N, win0_0.index t = ![t.val % 4, 0] ∧ win0_1.index t = ![t.val % 4, t.val / 4]
    ∧ win0_2.index t = ![0, t.val / 4] :=
  (by decide +kernel : ∀ t : Fin grid0.N, _)

/-- The product of two blocks over their rows, at an element. -/
def prod (a : Vec Ideal S2048x1024 .bf16) (b : Vec Ideal S2048x512 .bf16) (y : S1024x512.Idx) : EReal :=
  ∑ k : Fin 2048, a (ix2 k (y 0)) * b (ix2 k (y 1))

/-- What the body computes of two blocks. -/
theorem pay (a : Vec Ideal S2048x1024 .bf16) (b : Vec Ideal S2048x512 .bf16) (y : S1024x512.Idx) :
    k0_pay1 (F := Ideal) a b y = prod a b y := by
  pointwise [k0_pay1, prod]

/-- A point's part of the product. -/
def part (c : Dev nD) (t : Fin cfg0.N) (y : S1024x512.Idx) : EReal := prod (iblk m c 0 t) (iblk m c 1 t) y

/-- The first block of a run is written to the accumulator. -/
theorem acc_first (c : Dev nD) (t : Fin cfg0.N) (h : t.val % 4 = 0) (y : S1024x512.Idx) :
    (outsAt0 m c t.val t.isLt).2 y = 0 + part m c t y := by
  rw [outsAt0_A m c t h (by omega) (by omega), zero_add]
  frame_out
  unfold k0_pay2
  rw [shapeCast_self]
  exact pay _ _ y

/-- Every later block is added to it. -/
theorem acc_next (c : Dev nD) (t : Fin cfg0.N) (h : ¬t.val % 4 = 0) (y : S1024x512.Idx) :
    (outsAt0 m c t.val t.isLt).2 y = (outsAt0 m c (t.val - 1) (Nat.lt_of_le_of_lt (Nat.sub_le _ _) t.isLt)).2 y + part m c t y := by
  by_cases hl : t.val % 4 = 3
  on_goal 1 => rw [outsAt0_C m c t h (by omega) hl]
  on_goal 2 => rw [outsAt0_B m c t h (by omega) hl]
  all_goals
    generalize (outsAt0 m c (t.val - 1) (Nat.lt_of_le_of_lt (Nat.sub_le _ _) t.isLt)).2 = A
    frame_out
    simp only [read_unread_whole]
    unfold k0_pay3
    rw [shapeCast_self]
    exact congrArg (A y + ·) (pay _ _ y)

/-- At the last block the accumulator is written out. -/
theorem out_last (c : Dev nD) (t : Fin cfg0.N) (h : t.val % 4 = 3) (y : S1024x512.Idx) :
    (outsAt0 m c t.val t.isLt).1 y = (outsAt0 m c t.val t.isLt).2 y := by
  rw [outsAt0_C m c t (by omega) (by omega) h]
  generalize (outsAt0 m c (t.val - 1) (Nat.lt_of_le_of_lt (Nat.sub_le _ _) t.isLt)).2 = A
  frame_out
  rfl

/-- The kernel's array is the reference's. -/
theorem final (c : Dev nD) : (dats m 0 c).arrAt 2 cfg0.N
    = val_main_v4 (F := Ideal) (m ((c.tc : Thread nD τ).loc main_arg0)) (m ((c.tc : Thread nD τ).loc main_arg1)) := by
  refine (dats m 0 c).arrAt_eq_of_covers 2 _ (by decide +kernel) fun t hf y => ?_
  have hl := (flush0_2 t).mp hf
  rw [after0_2]
  refine (out_last m c t hl _).trans ((Pipeline.eq_sum_fin_of_reset_step_apply_of_flush (fun n h => (outsAt0 m c n h).2) 4 (fun _ => 0) (part m c)
    (acc_first m c) (acc_next m c) t hl _).trans ?_)
  rw [zero_add]
  pointwise [val_main_v4, val_main_v3, val_main_v2]
  simp only [part, prod]
  refine Fin.sum_mul_add_congr fun s k hk => ?_
  rw [mul_comm]
  blk_point [iblk, V, idx t, idx ⟨_, Pipeline.run_point_lt_of_flush t hl s⟩] <;> omega

end Cert.FoxQgDwValue
end
-- ==== Proof.FoxQgDxValue.lean ====
module

public import proofs.«01_k».proof.Proof.Gen.Kernel19Ideal.Value
public import proofs.«01_k».proof.Proof.Gen.Reference19Ideal.Read
public import Idealize.ShloMosaic.Lib.Pipeline.ValueKit
public import Idealize.ShloMosaic.Lib.Pointwise

@[expose] public section

set_option maxRecDepth 16384

noncomputable section

namespace Cert.FoxQgDxValue

open Cert.Kernel19Ideal Cert.Kernel19Ideal.Gen Idealize.ShloMosaic Idealize.ShloMosaic.TcCoe Idealize.SL.Sem
open Cert.Reference19Ideal.Read

variable (m : (ℓ : Loc nD τ sig) → Buf (Elt Ideal) ℓ)

/-- Each window's block index at a point: rows by `t / 2`, the result's columns by `t % 2`. -/
theorem idx : ∀ t : Fin cfg0.N, win0_0.index t = ![t.val / 2, 0] ∧ win0_1.index t = ![0, t.val % 2, 0]
    ∧ win0_2.index t = ![t.val / 2, t.val % 2] :=
  (by decide +kernel : ∀ t : Fin grid0.N, _)

/-- What the body computes of two blocks. -/
theorem pay (a : Vec Ideal S1024x2048 .bf16) (b : Vec Ideal S1x512x2048 .bf16) (y : S1024x512.Idx) :
    k0_pay1 (F := Ideal) a b y = ∑ k : Fin 2048, (a (ix2 (y 0) k) * b (ix3 0 (y 1) k) : EReal) := by
  pointwise [k0_pay1]

/-- The reference's product at an element. -/
theorem v3_at (x0 : (⟨S8192x2048, .f32⟩ : BufTy).Contents (Elt Ideal)) (x1 : (⟨S1x1024x2048, .f32⟩ : BufTy).Contents (Elt Ideal)) (i : S8192x1024.Idx) :
    val_main_v3 (F := Ideal) x0 x1 i = ∑ k : Fin 2048, (x0 (ix2 (i 0) k) * x1 (ix3 0 (i 1) k) : EReal) := by
  pointwise [val_main_v3, val_main_v1]

/-- The kernel's array is the reference's. -/
theorem final (c : Dev nD) : (dats m 0 c).arrAt 2 cfg0.N
    = val_main_v3 (F := Ideal) (m ((c.tc : Thread nD τ).loc main_arg0)) (m ((c.tc : Thread nD τ).loc main_arg1)) := by
  refine (dats m 0 c).arrAt_eq_of_covers 2 _ (by decide +kernel) fun t hf y => ?_
  rw [after0_2]
  frame_out
  refine (pay _ _ _).trans (Eq.trans (Finset.sum_congr rfl fun k _ => ?_) (v3_at _ _ _).symm)
  blk_point [iblk, V, idx t] <;> omega

end Cert.FoxQgDxValue
end
-- ==== Proof.GateValue.lean ====
module

public import proofs.«01_k».proof.Proof.Gen.Kernel20Ideal.Value
public import proofs.«01_k».proof.Proof.Gen.Reference20Ideal.Read
public import proofs.«01_k».proof.Proof.GmlpRef

@[expose] public section

set_option maxRecDepth 16384
set_option maxHeartbeats 1000000

noncomputable section

namespace Cert.GateValue

open Cert.Kernel20Ideal Cert.Kernel20Ideal.Gen Idealize.ShloMosaic Idealize.ShloMosaic.TcCoe Idealize.SL.Sem
open Cert.GmlpMath Cert.GmlpTiles
open Cert.GmlpInput (inp row row4096 row2048 turn_at)

/-! ## The gating of a token, forward -/

/-- The gated half times the mixed gating half. -/
def gated {ρ : Type} (I : Inp ρ) (r : ρ) (j : Fin 2048) : EReal :=
  I.u r j * ((∑ s, I.ws (grp j) (I.tk r) s * I.vn (I.ch r s) j) + I.bs (I.tk r) (grp j))

/-- A token's value is the same one seen through a map of tokens that keeps chunks. -/
theorem pull_gated {ρ σ : Type} (I : Inp ρ) (e : σ → ρ) (ch : σ → Fin 128 → σ) (h : ∀ s k, e (ch s k) = I.ch (e s) k) (s : σ) (j : Fin 2048) :
    gated (I.pull e ch) s j = gated I (e s) j := by
  show I.u (e s) j * ((∑ k, I.ws (grp j) (I.tk (e s)) k * I.vn (e (ch s k)) j) + _) = _
  simp only [h]; rfl

/-! ## A grid point -/

section Tile

variable (x0 : Vec Ideal S256x4096 .bf16) (x1 : Vec Ideal S1x4096 .f32) (x2 x3 : Vec Ideal S1x2048 .f32)
  (x4 : Vec Ideal S16x128x128 .bf16) (x5 : Vec Ideal S128x16 .f32)

/-- What a grid point reads, with nothing for the incoming gradient. -/
def tile : Inp (Fin 256) := blk (fun _ => (0 : EReal)) x0 x1 x2 x3 x4 (fun i => x4 (ix3 (i 0) (i 2) (i 1))) x5

/-- The gated half in a tile. -/
theorem U_at (i : S256x2048.Idx) : k0_pay5 (F := Ideal) (ldu x0) (lbu x1) i = (tile x0 x1 x2 x3 x4 x5).u (i 0) (i 1) := by
  pointwise [k0_pay5, ldu, lbu, tile, blk, Inp.u, gel, th]

/-- The gating half's pre-activation in a tile. -/
theorem pv_at (i : S256x2048.Idx) : k0_pay6 (F := Ideal) (ldv x0) (lbv x1) i = (tile x0 x1 x2 x3 x4 x5).pv (i 0) (i 1) := by
  pointwise [k0_pay6, ldv, lbv, tile, blk]

/-- The tanh in its activation. -/
theorem tanh_at (i : S256x2048.Idx) : k0_pay7 (F := Ideal) (ldv x0) (lbv x1) i = th ((tile x0 x1 x2 x3 x4 x5).pv (i 0) (i 1)) := by
  rw [← pv_at]
  pointwise [k0_pay7, th]

/-- The normalised gating half, from its pre-activation and the tanh. -/
theorem norm_at (g b : FVec Ideal S1x2048 .f32) (P T : FVec Ideal S256x2048 .f32) (p : Fin 256 → Fin 2048 → EReal)
    (hP : P = fun i => p (i 0) (i 1)) (hT : T = fun i => th (p (i 0) (i 1))) (i : S256x2048.Idx) :
    k0_pay9 (F := Ideal) g b P T (k0_pay8 (F := Ideal)) i
      = lnorm (fun j => gel (p (i 0) j)) (fun j => g (ix2 0 j)) (fun j => b (ix2 0 j)) (i 1) := by
  subst hP hT
  pointwise [k0_pay9, k0_pay8, lnorm, xn, ve, xc, gel]

/-- The normalised gating half in a tile. -/
theorem N_at (i : S256x2048.Idx) : k0_pay9 (F := Ideal) (k0_pay3 (F := Ideal) (View.ld x2 r0_4)) (k0_pay4 (F := Ideal) (View.ld x3 r0_4)) (k0_pay6 (F := Ideal) (ldv x0) (lbv x1))
    (k0_pay7 (F := Ideal) (ldv x0) (lbv x1)) (k0_pay8 (F := Ideal)) i = (tile x0 x1 x2 x3 x4 x5).vn (i 0) (i 1) := by
  rw [norm_at _ _ _ _ (tile x0 x1 x2 x3 x4 x5).pv (funext (pv_at x0 x1 x2 x3 x4 x5)) (funext (tanh_at x0 x1 x2 x3 x4 x5))]
  pointwise [k0_pay3, k0_pay4]
  rfl

variable {x0 x1 x2 x3 x4 x5}

/-- A tile's result, from its two halves. -/
theorem gated_of {U : Vec Ideal S256x2048 .f32} (hU : ∀ i, U i = (tile x0 x1 x2 x3 x4 x5).u (i 0) (i 1))
    {N : Vec Ideal S256x2048 .bf16} (hN : ∀ i, N i = (tile x0 x1 x2 x3 x4 x5).vn (i 0) (i 1)) (r : Fin 256) (j : Fin 2048) :
    gated (tile x0 x1 x2 x3 x4 x5) r j = U (ix2 r j) * ((∑ s : Fin 128, x4 (ix3 ⟨j.val / 128, by omega⟩ ⟨r.val % 128, by omega⟩ s)
      * N (ix2 ⟨128 * (r.val / 128) + s.val, by omega⟩ j)) + x5 (ix2 ⟨r.val % 128, by omega⟩ ⟨j.val / 128, by omega⟩)) := by
  simp only [hU, hN]; rfl

/-- What the body writes of its tile. -/
theorem out_at (y : S256x2048.Idx) : out0_6 (F := Ideal) x0 x1 x2 x3 x4 x5 y = gated (tile x0 x1 x2 x3 x4 x5) (y 0) (y 1) := by
  have hU' := U_at x0 x1 x2 x3 x4 x5
  have hN' := N_at x0 x1 x2 x3 x4 x5
  obtain ⟨U, hU⟩ : ∃ U, k0_pay5 (F := Ideal) (ldu x0) (lbu x1) = U := ⟨_, rfl⟩
  obtain ⟨N, hN⟩ : ∃ N, k0_pay9 (F := Ideal) (k0_pay3 (F := Ideal) (View.ld x2 r0_4)) (k0_pay4 (F := Ideal) (View.ld x3 r0_4)) (k0_pay6 (F := Ideal) (ldv x0) (lbv x1))
    (k0_pay7 (F := Ideal) (ldv x0) (lbv x1)) (k0_pay8 (F := Ideal)) = N := ⟨_, rfl⟩
  rw [hU] at hU'
  rw [hN] at hN'
  refine Eq.trans ?_ (gated_of hU' hN' _ _).symm
  frame_open
  have e : k0_pay48 x0 x1 x2 x3 x4 x5 = U := hU
  have f : k0_pay52 x0 x1 x2 x3 x4 x5 = N := hN
  have f' : k0_pay9 (k0_pay46 x0 x1 x2 x3 x4 x5) (k0_pay47 x0 x1 x2 x3 x4 x5) (k0_pay49 x0 x1 x2 x3 x4 x5) (k0_pay50 x0 x1 x2 x3 x4 x5)
    (k0_pay51 x0 x1 x2 x3 x4 x5) = N := hN
  unfold k0_pay10 k0_pay11
  rw [f', e, f]
  clear e f f' hU hN hU' hN'
  canon_tiles x h
  all_goals
    open_payloads
    pointwise []
    blk_point []

end Tile

/-! ## The whole array -/

variable (m : (ℓ : Loc nD τ sig) → Buf (Elt Ideal) ℓ)

/-- The arguments at launch, with nothing for the incoming gradient. -/
def argI (c : Dev nD) : Inp (Fin 8192) :=
  inp (fun _ => (0 : EReal)) (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))

/-- The windows' block indices at a point: the token blocks follow the point, everything else is one block. -/
theorem idx : ∀ t : Fin cfg0.N, win0_0.index t = ![t.val, 0] ∧ win0_1.index t = ![0, 0] ∧ win0_2.index t = ![0, 0] ∧ win0_3.index t = ![0, 0]
    ∧ win0_4.index t = ![0, 0, 0] ∧ win0_5.index t = ![0, 0] ∧ win0_6.index t = ![t.val, 0] :=
  (by decide +kernel : ∀ t : Fin grid0.N, _)

/-! ### What the host hands the kernel -/

theorem v5_at (c : Dev nD) : V m c main_v5 = Reference2Ideal.Read.val_main_v4 (F := Ideal) (m ((c.tc : Thread nD τ).loc main_arg4)) := rfl
theorem v6_at (c : Dev nD) : V m c main_v6 = m ((c.tc : Thread nD τ).loc main_arg0) := rfl
theorem v7_at (c : Dev nD) (j : Fin 4096) : V m c main_v7 (ix2 0 j) = m ((c.tc : Thread nD τ).loc main_arg1) (ix1 j) :=
  (congrFun (rfl : V m c main_v7 = shapeCast S1x4096 (m ((c.tc : Thread nD τ).loc main_arg1)) shapeCasts_S4096_S1x4096) _).trans (row4096 _ j)
theorem v8_at (c : Dev nD) (j : Fin 2048) : V m c main_v8 (ix2 0 j) = m ((c.tc : Thread nD τ).loc main_arg2) (ix1 j) :=
  (congrFun (rfl : V m c main_v8 = shapeCast S1x2048 (m ((c.tc : Thread nD τ).loc main_arg2)) shapeCasts_S2048_S1x2048) _).trans (row2048 _ j)
theorem v9_at (c : Dev nD) (j : Fin 2048) : V m c main_v9 (ix2 0 j) = m ((c.tc : Thread nD τ).loc main_arg3) (ix1 j) :=
  (congrFun (rfl : V m c main_v9 = shapeCast S1x2048 (m ((c.tc : Thread nD τ).loc main_arg3)) shapeCasts_S2048_S1x2048) _).trans (row2048 _ j)
theorem v10_at (c : Dev nD) (a : Fin 128) (g : Fin 16) : V m c main_v10 (ix2 a g) = m ((c.tc : Thread nD τ).loc main_arg5) (ix2 g a) :=
  (congrFun (rfl : V m c main_v10 = transpose S128x16 [1, 0] (m ((c.tc : Thread nD τ).loc main_arg5)) transposes_S16x128_S128x16_1_0) _).trans
    (turn_at _ a g)

theorem z_at (c : Dev nD) (t : Fin cfg0.N) (r : Fin 256) (j : Fin 4096) :
    iblk m c 0 t (ix2 r j) = m ((c.tc : Thread nD τ).loc main_arg0) (ix2 (row t r) j) := by
  rw [← v6_at m c]
  blk_ext [iblk, V, idx t]
  dsimp only [row]
  omega
theorem p_at (c : Dev nD) (t : Fin cfg0.N) (j : Fin 4096) : iblk m c 1 t (ix2 0 j) = m ((c.tc : Thread nD τ).loc main_arg1) (ix1 j) := by
  refine Eq.trans ?_ (v7_at m c j)
  blk_ext [iblk, V, idx t]
theorem w_at (c : Dev nD) (t : Fin cfg0.N) (g : Fin 16) (a b : Fin 128) : iblk m c 4 t (ix3 g a b)
    = Reference2Ideal.Read.val_main_v4 (F := Ideal) (m ((c.tc : Thread nD τ).loc main_arg4)) (ix3 g a b) := by
  rw [← v5_at m c]
  blk_ext [iblk, V, idx t]

/-- What a grid point reads is the arguments at its 256 tokens. -/
theorem pt_eq (c : Dev nD) (t : Fin cfg0.N) : tile (iblk m c 0 t) (iblk m c 1 t) (iblk m c 2 t) (iblk m c 3 t) (iblk m c 4 t) (iblk m c 5 t)
    = (argI m c).pull (row t) fun r k => ⟨128 * (r.val / 128) + k.val, by omega⟩ := by
  unfold tile blk Inp.pull argI inp row
  have htk : (fun r : Fin 256 => (⟨r.val % 128, by omega⟩ : Fin 128)) = fun r => ⟨(256 * t.val + r.val) % 128, by omega⟩ := by
    funext r; exact Fin.ext (by dsimp only; omega)
  rw [htk]
  congr 1
  · funext r j
    refine Eq.trans (congr (congrArg HAdd.hAdd (z_at m c t r ⟨j.val, by omega⟩)) (p_at m c t ⟨j.val, by omega⟩)) ?_
    dsimp only [row]
  · funext r j
    refine Eq.trans (congr (congrArg HAdd.hAdd (z_at m c t r ⟨2048 + j.val, by omega⟩)) (p_at m c t ⟨2048 + j.val, by omega⟩)) ?_
    dsimp only [row]
  · funext j
    refine Eq.trans ?_ (v8_at m c j)
    blk_ext [iblk, V, idx t]
  · funext j
    refine Eq.trans ?_ (v9_at m c j)
    blk_ext [iblk, V, idx t]
  · funext g a b
    exact w_at m c t g a b
  · funext g a b
    exact w_at m c t g b a
  · funext a g
    refine Eq.trans ?_ (v10_at m c a g)
    blk_ext [iblk, V, idx t]

/-- The kernel's array, token by token. -/
theorem final_gated (c : Dev nD) : (dats m 0 c).arrAt 6 cfg0.N = fun i => gated (argI m c) (i 0) (i 1) := by
  refine (dats m 0 c).arrAt_eq_of_covers 6 _ (by decide +kernel) fun t hf y => ?_
  rw [after0_6]
  refine (out_at _).trans ?_
  rw [pt_eq]
  refine (pull_gated (argI m c) (row t) _ (fun s k => Fin.ext (by dsimp only [row, argI, inp]; omega)) _ _).trans ?_
  refine congr (congrArg (gated _) (Fin.ext ?_)) (Fin.ext ?_)
  · blk_simp [idx t]
    dsimp only [row]
    omega
  · blk_simp [idx t]

/-- The reference, token by token. -/
theorem ref_at (x1 : (⟨S8192x4096, .f32⟩ : BufTy).Contents (Elt Ideal)) (x2 : (⟨S4096, .f32⟩ : BufTy).Contents (Elt Ideal))
    (x3 x4 : (⟨S2048, .f32⟩ : BufTy).Contents (Elt Ideal)) (x5 : (⟨S16x128x128, .f32⟩ : BufTy).Contents (Elt Ideal))
    (x6 : (⟨S16x128, .f32⟩ : BufTy).Contents (Elt Ideal)) (r : Fin 8192) (j : Fin 2048) :
    Reference20Ideal.Read.val_main_v73 (F := Ideal) x1 x2 x3 x4 x5 x6 (ix2 r j) = gated (inp (fun _ => (0 : EReal)) x1 x2 x3 x4 x5 x6) r j := by
  show Reference2Ideal.Read.val_main_v33 (F := Ideal) x1 x2 (ix2 r j) * Reference2Ideal.Read.val_main_v90 (F := Ideal) x1 x2 x3 x4 x5 x6 (ix2 r j) = _
  rw [GmlpRef.u_at (fun _ => (0 : EReal)) x1 x2 x3 x4 x5 x6, GmlpRef.gate_at]
  simp only [GmlpRef.vn_at (fun _ => (0 : EReal)) x1 x2 x3 x4 x5 x6, mul_comm (Inp.vn _ _ _)]
  rfl

/-- The kernel's array is the reference's. -/
theorem final (c : Dev nD) : (dats m 0 c).arrAt 6 cfg0.N
    = Reference20Ideal.Read.val_main_v73 (F := Ideal) (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5)) := by
  rw [final_gated]
  funext j
  have e : j = ix2 (j 0) (j 1) := by
    funext k
    fin_cases k <;> rfl
  exact ((congrArg _ e).trans (ref_at _ _ _ _ _ _ (j 0) (j 1))).symm

end Cert.GateValue
end
-- ==== Proof.KvValue.lean ====
module

public import proofs.«01_k».proof.Proof.Gen.Kernel21Ideal.Value
public import proofs.«01_k».proof.Proof.Gen.Reference21Ideal.Read
public import Idealize.ShloMosaic.Lib.Pipeline.ValueKit
public import Idealize.ShloMosaic.Lib.Pointwise

@[expose] public section

set_option maxRecDepth 16384

noncomputable section

namespace Cert.KvValue

open Cert.Kernel21Ideal Cert.Kernel21Ideal.Gen Idealize.ShloMosaic Idealize.ShloMosaic.TcCoe Idealize.SL.Sem
open Cert.Reference21Ideal.Read

variable (m : (ℓ : Loc nD τ sig) → Buf (Elt Ideal) ℓ)

/-- Each window's block index at a point: the row blocks follow the points. -/
theorem idx : ∀ t : Fin cfg0.N, win0_0.index t = ![t.val, 0] ∧ win0_1.index t = ![0, 0]
    ∧ win0_2.index t = ![t.val, 0] :=
  (by decide +kernel : ∀ t : Fin grid0.N, _)

/-- What the body computes of two blocks. -/
theorem pay (a : Vec Ideal S512x1024 .bf16) (b : Vec Ideal S1024x2176 .bf16) (y : S512x2176.Idx) :
    k0_pay1 (F := Ideal) a b y = ∑ k : Fin 1024, (a (ix2 (y 0) k) * b (ix2 k (y 1)) : EReal) := by
  pointwise [k0_pay1]

/-- The reference's product at an element. -/
theorem v0_at (x0 : (⟨S8192x1024, .f32⟩ : BufTy).Contents (Elt Ideal)) (x1 : (⟨S1024x2176, .f32⟩ : BufTy).Contents (Elt Ideal)) (i : S8192x2176.Idx) :
    val_main_v0 (F := Ideal) x0 x1 i = ∑ k : Fin 1024, (x0 (ix2 (i 0) k) * x1 (ix2 k (i 1)) : EReal) := by
  pointwise [val_main_v0]

/-- The kernel's array is the reference's. -/
theorem final (c : Dev nD) : (dats m 0 c).arrAt 2 cfg0.N
    = val_main_v0 (F := Ideal) (m ((c.tc : Thread nD τ).loc main_arg0)) (m ((c.tc : Thread nD τ).loc main_arg1)) := by
  refine (dats m 0 c).arrAt_eq_of_covers 2 _ (by decide +kernel) fun t hf y => ?_
  rw [after0_2]
  frame_out
  refine (pay _ _ _).trans (Eq.trans (Finset.sum_congr rfl fun k _ => ?_) (v0_at _ _ _).symm)
  blk_point [iblk, V, idx t] <;> omega

end Cert.KvValue
end
-- ==== Proof.KvDwValue.lean ====
module

public import proofs.«01_k».proof.Proof.Gen.Kernel22Ideal.Value
public import proofs.«01_k».proof.Proof.Gen.Reference22Ideal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.KvDwValue

open Cert.Kernel22Ideal Cert.Kernel22Ideal.Gen Idealize.ShloMosaic Idealize.ShloMosaic.TcCoe Idealize.SL.Sem
open Cert.Reference22Ideal.Read

variable (m : (ℓ : Loc nD τ sig) → Buf (Elt Ideal) ℓ)

/-- Each window's block index at a point: the first operand's columns, the second's columns, and the contracted rows by `t % 4`. -/
theorem idx : ∀ t : Fin cfg0.N, win0_0.index t = ![t.val % 4, t.val / 4] ∧ win0_1.index t = ![t.val % 4, 0]
    ∧ win0_2.index t = ![t.val / 4, 0] :=
  (by decide +kernel : ∀ t : Fin grid0.N, _)

/-- The product of two blocks over their rows, at an element. -/
def prod (a : Vec Ideal S2048x512 .bf16) (b : Vec Ideal S2048x2176 .bf16) (y : S512x2176.Idx) : EReal :=
  ∑ k : Fin 2048, a (ix2 k (y 0)) * b (ix2 k (y 1))

/-- What the body computes of two blocks. -/
theorem pay (a : Vec Ideal S2048x512 .bf16) (b : Vec Ideal S2048x2176 .bf16) (y : S512x2176.Idx) :
    k0_pay1 (F := Ideal) a b y = prod a b y := by
  pointwise [k0_pay1, prod]

/-- A point's part of the product. -/
def part (c : Dev nD) (t : Fin cfg0.N) (y : S512x2176.Idx) : EReal := prod (iblk m c 0 t) (iblk m c 1 t) y

/-- The first block of a run is written to the accumulator. -/
theorem acc_first (c : Dev nD) (t : Fin cfg0.N) (h : t.val % 4 = 0) (y : S512x2176.Idx) :
    (outsAt0 m c t.val t.isLt).2 y = 0 + part m c t y := by
  rw [outsAt0_A m c t h (by omega) (by omega), zero_add]
  frame_out
  unfold k0_pay2
  rw [shapeCast_self]
  exact pay _ _ y

/-- Every later block is added to it. -/
theorem acc_next (c : Dev nD) (t : Fin cfg0.N) (h : ¬t.val % 4 = 0) (y : S512x2176.Idx) :
    (outsAt0 m c t.val t.isLt).2 y = (outsAt0 m c (t.val - 1) (Nat.lt_of_le_of_lt (Nat.sub_le _ _) t.isLt)).2 y + part m c t y := by
  by_cases hl : t.val % 4 = 3
  on_goal 1 => rw [outsAt0_C m c t h (by omega) hl]
  on_goal 2 => rw [outsAt0_B m c t h (by omega) hl]
  all_goals
    generalize (outsAt0 m c (t.val - 1) (Nat.lt_of_le_of_lt (Nat.sub_le _ _) t.isLt)).2 = A
    frame_out
    simp only [read_unread_whole]
    unfold k0_pay3
    rw [shapeCast_self]
    exact congrArg (A y + ·) (pay _ _ y)

/-- At the last block the accumulator is written out. -/
theorem out_last (c : Dev nD) (t : Fin cfg0.N) (h : t.val % 4 = 3) (y : S512x2176.Idx) :
    (outsAt0 m c t.val t.isLt).1 y = (outsAt0 m c t.val t.isLt).2 y := by
  rw [outsAt0_C m c t (by omega) (by omega) h]
  generalize (outsAt0 m c (t.val - 1) (Nat.lt_of_le_of_lt (Nat.sub_le _ _) t.isLt)).2 = A
  frame_out
  rfl

/-- The kernel's array is the reference's. -/
theorem final (c : Dev nD) : (dats m 0 c).arrAt 2 cfg0.N
    = val_main_v4 (F := Ideal) (m ((c.tc : Thread nD τ).loc main_arg0)) (m ((c.tc : Thread nD τ).loc main_arg1)) := by
  refine (dats m 0 c).arrAt_eq_of_covers 2 _ (by decide +kernel) fun t hf y => ?_
  have hl := (flush0_2 t).mp hf
  rw [after0_2]
  refine (out_last m c t hl _).trans ((Pipeline.eq_sum_fin_of_reset_step_apply_of_flush (fun n h => (outsAt0 m c n h).2) 4 (fun _ => 0) (part m c)
    (acc_first m c) (acc_next m c) t hl _).trans ?_)
  rw [zero_add]
  pointwise [val_main_v4, val_main_v3, val_main_v2]
  simp only [part, prod]
  refine Fin.sum_mul_add_congr fun s k hk => ?_
  rw [mul_comm]
  blk_point [iblk, V, idx t, idx ⟨_, Pipeline.run_point_lt_of_flush t hl s⟩] <;> omega

end Cert.KvDwValue
end
-- ==== Proof.KvDxValue.lean ====
module

public import proofs.«01_k».proof.Proof.Gen.Kernel23Ideal.Value
public import proofs.«01_k».proof.Proof.Gen.Reference23Ideal.Read
public import Idealize.ShloMosaic.Lib.Pipeline.ValueKit
public import Idealize.ShloMosaic.Lib.Pointwise

@[expose] public section

set_option maxRecDepth 16384

noncomputable section

namespace Cert.KvDxValue

open Cert.Kernel23Ideal Cert.Kernel23Ideal.Gen Idealize.ShloMosaic Idealize.ShloMosaic.TcCoe Idealize.SL.Sem
open Cert.Reference23Ideal.Read

variable (m : (ℓ : Loc nD τ sig) → Buf (Elt Ideal) ℓ)

/-- Each window's block index at a point: rows by `t / 2`, the result's columns by `t % 2`. -/
theorem idx : ∀ t : Fin cfg0.N, win0_0.index t = ![t.val / 2, 0] ∧ win0_1.index t = ![t.val % 2, 0]
    ∧ win0_2.index t = ![t.val / 2, t.val % 2] :=
  (by decide +kernel : ∀ t : Fin grid0.N, _)

/-- What the body computes of two blocks. -/
theorem pay (a : Vec Ideal S1024x2176 .bf16) (b : Vec Ideal S512x2176 .bf16) (y : S1024x512.Idx) :
    k0_pay1 (F := Ideal) a b y = ∑ k : Fin 2176, (a (ix2 (y 0) k) * b (ix2 (y 1) k) : EReal) := by
  pointwise [k0_pay1]

/-- The reference's product at an element. -/
theorem v2_at (x0 : (⟨S8192x2176, .f32⟩ : BufTy).Contents (Elt Ideal)) (x1 : (⟨S1024x2176, .f32⟩ : BufTy).Contents (Elt Ideal)) (i : S8192x1024.Idx) :
    val_main_v2 (F := Ideal) x0 x1 i = ∑ k : Fin 2176, (x0 (ix2 (i 0) k) * x1 (ix2 (i 1) k) : EReal) := by
  pointwise [val_main_v2, val_main_v1]

/-- The kernel's array is the reference's. -/
theorem final (c : Dev nD) : (dats m 0 c).arrAt 2 cfg0.N
    = val_main_v2 (F := Ideal) (m ((c.tc : Thread nD τ).loc main_arg0)) (m ((c.tc : Thread nD τ).loc main_arg1)) := by
  refine (dats m 0 c).arrAt_eq_of_covers 2 _ (by decide +kernel) fun t hf y => ?_
  rw [after0_2]
  frame_out
  refine (pay _ _ _).trans (Eq.trans (Finset.sum_congr rfl fun k _ => ?_) (v2_at _ _ _).symm)
  blk_point [iblk, V, idx t] <;> omega

end Cert.KvDxValue
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Skeleton
public import proofs.«01_k».proof.Proof.Gen.Kernel15.Launch
public import proofs.«01_k».proof.Proof.Gen.Kernel15.Points
public import proofs.«01_k».proof.Proof.Gen.Kernel15.Frame
public import proofs.«01_k».proof.Proof.Gen.Kernel15Ideal
public import proofs.«01_k».proof.Proof.Gen.Kernel15Ideal.Skeleton
public import proofs.«01_k».proof.Proof.Gen.Kernel15Ideal.Launch
public import proofs.«01_k».proof.Proof.Gen.Kernel15Ideal.Points
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Skeleton
public import proofs.«01_k».proof.Proof.Gen.Kernel16.Launch
public import proofs.«01_k».proof.Proof.Gen.Kernel16.Points
public import proofs.«01_k».proof.Proof.Gen.Kernel16.Frame
public import proofs.«01_k».proof.Proof.Gen.Kernel16Ideal
public import proofs.«01_k».proof.Proof.Gen.Kernel16Ideal.Skeleton
public import proofs.«01_k».proof.Proof.Gen.Kernel16Ideal.Launch
public import proofs.«01_k».proof.Proof.Gen.Kernel16Ideal.Points
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Skeleton
public import proofs.«01_k».proof.Proof.Gen.Kernel17.Launch
public import proofs.«01_k».proof.Proof.Gen.Kernel17.Points
public import proofs.«01_k».proof.Proof.Gen.Kernel17.Frame
public import proofs.«01_k».proof.Proof.Gen.Kernel17Ideal
public import proofs.«01_k».proof.Proof.Gen.Kernel17Ideal.Skeleton
public import proofs.«01_k».proof.Proof.Gen.Kernel17Ideal.Launch
public import proofs.«01_k».proof.Proof.Gen.Kernel17Ideal.Points
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Skeleton
public import proofs.«01_k».proof.Proof.Gen.Kernel18.Launch
public import proofs.«01_k».proof.Proof.Gen.Kernel18.Points
public import proofs.«01_k».proof.Proof.Gen.Kernel18.Frame
public import proofs.«01_k».proof.Proof.Gen.Kernel18Ideal
public import proofs.«01_k».proof.Proof.Gen.Kernel18Ideal.Skeleton
public import proofs.«01_k».proof.Proof.Gen.Kernel18Ideal.Launch
public import proofs.«01_k».proof.Proof.Gen.Kernel18Ideal.Points
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel19
public import proofs.«01_k».proof.Proof.Gen.Kernel19.Skeleton
public import proofs.«01_k».proof.Proof.Gen.Kernel19.Launch
public import proofs.«01_k».proof.Proof.Gen.Kernel19.Points
public import proofs.«01_k».proof.Proof.Gen.Kernel19.Frame
public import proofs.«01_k».proof.Proof.Gen.Kernel19Ideal
public import proofs.«01_k».proof.Proof.Gen.Kernel19Ideal.Skeleton
public import proofs.«01_k».proof.Proof.Gen.Kernel19Ideal.Launch
public import proofs.«01_k».proof.Proof.Gen.Kernel19Ideal.Points
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.Gen.Kernel20
public import proofs.«01_k».proof.Proof.Gen.Kernel20.Skeleton
public import proofs.«01_k».proof.Proof.Gen.Kernel20.Launch
public import proofs.«01_k».proof.Proof.Gen.Kernel20.Points
public import proofs.«01_k».proof.Proof.Gen.Kernel20.Frame
public import proofs.«01_k».proof.Proof.Gen.Kernel20Ideal
public import proofs.«01_k».proof.Proof.Gen.Kernel20Ideal.Skeleton
public import proofs.«01_k».proof.Proof.Gen.Kernel20Ideal.Launch
public import proofs.«01_k».proof.Proof.Gen.Kernel20Ideal.Points
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import proofs.«01_k».proof.Proof.Gen.Kernel21
public import proofs.«01_k».proof.Proof.Gen.Kernel21.Skeleton
public import proofs.«01_k».proof.Proof.Gen.Kernel21.Launch
public import proofs.«01_k».proof.Proof.Gen.Kernel21.Points
public import proofs.«01_k».proof.Proof.Gen.Kernel21.Frame
public import proofs.«01_k».proof.Proof.Gen.Kernel21Ideal
public import proofs.«01_k».proof.Proof.Gen.Kernel21Ideal.Skeleton
public import proofs.«01_k».proof.Proof.Gen.Kernel21Ideal.Launch
public import proofs.«01_k».proof.Proof.Gen.Kernel21Ideal.Points
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Reference21Ideal.Read
public import proofs.«01_k».proof.Proof.Gen.Kernel22
public import proofs.«01_k».proof.Proof.Gen.Kernel22.Skeleton
public import proofs.«01_k».proof.Proof.Gen.Kernel22.Launch
public import proofs.«01_k».proof.Proof.Gen.Kernel22.Points
public import proofs.«01_k».proof.Proof.Gen.Kernel22.Frame
public import proofs.«01_k».proof.Proof.Gen.Kernel22Ideal
public import proofs.«01_k».proof.Proof.Gen.Kernel22Ideal.Skeleton
public import proofs.«01_k».proof.Proof.Gen.Kernel22Ideal.Launch
public import proofs.«01_k».proof.Proof.Gen.Kernel22Ideal.Points
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Reference22Ideal.Read
public import proofs.«01_k».proof.Proof.Gen.Kernel23
public import proofs.«01_k».proof.Proof.Gen.Kernel23.Skeleton
public import proofs.«01_k».proof.Proof.Gen.Kernel23.Launch
public import proofs.«01_k».proof.Proof.Gen.Kernel23.Points
public import proofs.«01_k».proof.Proof.Gen.Kernel23.Frame
public import proofs.«01_k».proof.Proof.Gen.Kernel23Ideal
public import proofs.«01_k».proof.Proof.Gen.Kernel23Ideal.Skeleton
public import proofs.«01_k».proof.Proof.Gen.Kernel23Ideal.Launch
public import proofs.«01_k».proof.Proof.Gen.Kernel23Ideal.Points
public import proofs.«01_k».proof.Proof.Gen.Kernel23Ideal.Frame
public import proofs.«01_k».proof.Proof.Gen.Kernel23Ideal.Value
public import proofs.«01_k».proof.Proof.Gen.Reference23Ideal
public import proofs.«01_k».proof.Proof.Gen.Reference23Ideal.Run
public import proofs.«01_k».proof.Proof.Gen.Reference23Ideal.Read
public import Idealize.ShloMosaic.Adequacy
public import Idealize.ShloMosaic.Init
public import proofs.«01_k».proof.Proof.FfnValue
public import proofs.«01_k».proof.Proof.GmlpValue
public import proofs.«01_k».proof.Proof.GuDxValue
public import proofs.«01_k».proof.Proof.GuDwValue
public import proofs.«01_k».proof.Proof.DownDwValue
public import proofs.«01_k».proof.Proof.UpValue
public import proofs.«01_k».proof.Proof.DownValue
public import proofs.«01_k».proof.Proof.GmlpInValue
public import proofs.«01_k».proof.Proof.GmlpOutValue
public import proofs.«01_k».proof.Proof.GmlpOutDwValue
public import proofs.«01_k».proof.Proof.GmlpOutDxValue
public import proofs.«01_k».proof.Proof.GmlpInDwValue
public import proofs.«01_k».proof.Proof.GmlpInDxValue
public import proofs.«01_k».proof.Proof.FoxQgValue
public import proofs.«01_k».proof.Proof.FoxOutValue
public import proofs.«01_k».proof.Proof.FoxOutDwValue
public import proofs.«01_k».proof.Proof.FoxOutDxValue
public import proofs.«01_k».proof.Proof.FoxQgDwValue
public import proofs.«01_k».proof.Proof.FoxQgDxValue
public import proofs.«01_k».proof.Proof.GateValue
public import proofs.«01_k».proof.Proof.KvValue
public import proofs.«01_k».proof.Proof.KvDwValue
public import proofs.«01_k».proof.Proof.KvDxValue

@[expose] public section

noncomputable section

namespace Cert.Proof

open Idealize.ShloMosaic Idealize.SL.Sem Cert.Kernel

/-! ## The feed-forward block's kernel -/

/-- The kernel runs to the end from every memory and leaves its arguments and every semaphore as they should be. -/
theorem frame_kernel_ffn : Cert.quiescent_Kernel := fun m ρ _ => Cert.Kernel.Gen.frame m ρ

/-- So does its idealization. -/
theorem frame_ideal_ffn : Cert.quiescent_KernelIdeal := fun m ρ _ => Cert.KernelIdeal.Gen.frame m ρ

/-- So does the reference. -/
theorem frame_reference_ffn : Cert.quiescent_ReferenceIdeal := fun m g _ =>
  (θ_run Cert.ReferenceIdeal.defs _ _).mono (fun r h => ⟨fun c => (h c).2, sem_eq_zero_of_no_sems (by decide) r.2⟩)
    (Cert.ReferenceIdeal.Value.run m g)

/-- On extended reals the kernel's array is the reference's. -/
theorem value_ffn : Cert.algebraic_KernelIdeal_ReferenceIdeal := by
  intro m g m' g' _ hagree
  refine ⟨_, Cert.KernelIdeal.Value.run_blocks m g, (θ_run Cert.ReferenceIdeal.defs _ _).mono (fun r h c => ?_) (Cert.ReferenceIdeal.Value.run m' g')⟩
  obtain ⟨h0, h1⟩ := h c
  refine ⟨?_, h1⟩
  rw [h0, Cert.ReferenceIdeal.Read.val_main_v19_eq, (hagree c).1, (hagree c).2.1, (hagree c).2.2]
  exact (Cert.FfnValue.final m c).symm

/-! ## The gMLP gate's kernel -/

/-- The kernel runs to the end from every memory and leaves its arguments and every semaphore as they should be. -/
theorem frame_kernel_gmlp : Cert.quiescent_Kernel2 := fun m ρ _ => Cert.Kernel2.Gen.frame m ρ

/-- So does its idealization. -/
theorem frame_ideal_gmlp : Cert.quiescent_Kernel2Ideal := fun m ρ _ => Cert.Kernel2Ideal.Gen.frame m ρ

/-- So does the reference. -/
theorem frame_reference_gmlp : Cert.quiescent_Reference2Ideal := fun m g _ =>
  (θ_run Cert.Reference2Ideal.defs _ _).mono (fun r h => ⟨fun c => (h c).2.2.2.2.2.2, sem_eq_zero_of_no_sems (by decide) r.2⟩)
    (Cert.Reference2Ideal.Value.run m g)

/-- On extended reals each of the kernel's six arrays is the reference's. -/
theorem value_gmlp : Cert.algebraic_Kernel2Ideal_Reference2Ideal := by
  intro m g m' g' _ hagree
  refine ⟨_, _, _, _, _, _, Cert.Kernel2Ideal.Value.run_blocks m g, (θ_run Cert.Reference2Ideal.defs _ _).mono (fun r h c => ?_) (Cert.Reference2Ideal.Value.run m' g')⟩
  obtain ⟨h0, h1, h2, h3, h4, h5, h6⟩ := h c
  obtain ⟨a0, a1, a2, a3, a4, a5, a6⟩ := hagree c
  have e0 : StableHlo.launchContents m' c (Proc.tc.devRef Cert.Reference2Ideal.main_arg0) = _ := a0
  have e1 : StableHlo.launchContents m' c (Proc.tc.devRef Cert.Reference2Ideal.main_arg1) = _ := a1
  have e2 : StableHlo.launchContents m' c (Proc.tc.devRef Cert.Reference2Ideal.main_arg2) = _ := a2
  have e3 : StableHlo.launchContents m' c (Proc.tc.devRef Cert.Reference2Ideal.main_arg3) = _ := a3
  have e4 : StableHlo.launchContents m' c (Proc.tc.devRef Cert.Reference2Ideal.main_arg4) = _ := a4
  have e5 : StableHlo.launchContents m' c (Proc.tc.devRef Cert.Reference2Ideal.main_arg5) = _ := a5
  have e6 : StableHlo.launchContents m' c (Proc.tc.devRef Cert.Reference2Ideal.main_arg6) = _ := a6
  refine ⟨?_, ?_, ?_, ?_, ?_, ?_, h6⟩
  · rw [h0, Cert.Reference2Ideal.Read.val_main_v167_eq, e0, e1, e2, e3, e4, e5, e6]
    exact (Cert.GmlpValue.dz m c).symm
  · rw [h1, Cert.Reference2Ideal.Read.val_main_v169_eq, e0, e1, e2, e3, e4, e5, e6]
    exact (Cert.GmlpValue.dbin m c).symm
  · rw [h2, Cert.Reference2Ideal.Read.val_main_v170_eq, e0, e1, e2, e5]
    exact (Cert.GmlpValue.dg m c).symm
  · rw [h3, Cert.Reference2Ideal.Read.val_main_v171_eq, e0, e1, e2, e5]
    exact (Cert.GmlpValue.db m c).symm
  · rw [h4, Cert.Reference2Ideal.Read.val_main_v101_eq, e0, e1, e2, e3, e4]
    exact (Cert.GmlpValue.dws m c).symm
  · rw [h5, Cert.Reference2Ideal.Read.val_main_v99_eq, e0, e1, e2]
    exact (Cert.GmlpValue.dbs m c).symm

/-! ## The up projection's input gradient -/

/-- The kernel runs to the end from every memory and leaves its arguments and every semaphore as they should be. -/
theorem frame_kernel_gu_dx : Cert.quiescent_Kernel3 := fun m ρ _ => Cert.Kernel3.Gen.frame m ρ

/-- So does its idealization. -/
theorem frame_ideal_gu_dx : Cert.quiescent_Kernel3Ideal := fun m ρ _ => Cert.Kernel3Ideal.Gen.frame m ρ

/-- So does the reference. -/
theorem frame_reference_gu_dx : Cert.quiescent_Reference3Ideal := fun m g _ =>
  (θ_run Cert.Reference3Ideal.defs _ _).mono (fun r h => ⟨fun c => (h c).2, sem_eq_zero_of_no_sems (by decide) r.2⟩)
    (Cert.Reference3Ideal.Value.run m g)

/-- On extended reals the kernel's array is the reference's. -/
theorem value_gu_dx : Cert.algebraic_Kernel3Ideal_Reference3Ideal := by
  intro m g m' g' _ hagree
  refine ⟨_, Cert.Kernel3Ideal.Value.run_blocks m g, (θ_run Cert.Reference3Ideal.defs _ _).mono (fun r h c => ?_) (Cert.Reference3Ideal.Value.run m' g')⟩
  obtain ⟨h0, h1⟩ := h c
  refine ⟨?_, h1⟩
  rw [h0, Cert.Reference3Ideal.Read.val_main_v3_eq, (hagree c).1, (hagree c).2]
  exact (Cert.GuDxValue.final m c).symm

/-! ## The up projection's weight gradient -/

/-- The kernel runs to the end from every memory and leaves its arguments and every semaphore as they should be. -/
theorem frame_kernel_gu_dw : Cert.quiescent_Kernel4 := fun m ρ _ => Cert.Kernel4.Gen.frame m ρ

/-- So does its idealization. -/
theorem frame_ideal_gu_dw : Cert.quiescent_Kernel4Ideal := fun m ρ _ => Cert.Kernel4Ideal.Gen.frame m ρ

/-- So does the reference. -/
theorem frame_reference_gu_dw : Cert.quiescent_Reference4Ideal := fun m g _ =>
  (θ_run Cert.Reference4Ideal.defs _ _).mono (fun r h => ⟨fun c => (h c).2, sem_eq_zero_of_no_sems (by decide) r.2⟩)
    (Cert.Reference4Ideal.Value.run m g)

/-- On extended reals the kernel's array is the reference's. -/
theorem value_gu_dw : Cert.algebraic_Kernel4Ideal_Reference4Ideal := by
  intro m g m' g' _ hagree
  refine ⟨_, Cert.Kernel4Ideal.Value.run_blocks m g, (θ_run Cert.Reference4Ideal.defs _ _).mono (fun r h c => ?_) (Cert.Reference4Ideal.Value.run m' g')⟩
  obtain ⟨h0, h1⟩ := h c
  refine ⟨?_, h1⟩
  rw [h0, Cert.Reference4Ideal.Read.val_main_v4_eq, (hagree c).1, (hagree c).2]
  exact (Cert.GuDwValue.final m c).symm

/-! ## The down projection's weight gradient -/

/-- The kernel runs to the end from every memory and leaves its arguments and every semaphore as they should be. -/
theorem frame_kernel_down_dw : Cert.quiescent_Kernel5 := fun m ρ _ => Cert.Kernel5.Gen.frame m ρ

/-- So does its idealization. -/
theorem frame_ideal_down_dw : Cert.quiescent_Kernel5Ideal := fun m ρ _ => Cert.Kernel5Ideal.Gen.frame m ρ

/-- So does the reference. -/
theorem frame_reference_down_dw : Cert.quiescent_Reference5Ideal := fun m g _ =>
  (θ_run Cert.Reference5Ideal.defs _ _).mono (fun r h => ⟨fun c => (h c).2, sem_eq_zero_of_no_sems (by decide) r.2⟩)
    (Cert.Reference5Ideal.Value.run m g)

/-- On extended reals the kernel's array is the reference's. -/
theorem value_down_dw : Cert.algebraic_Kernel5Ideal_Reference5Ideal := by
  intro m g m' g' _ hagree
  refine ⟨_, Cert.Kernel5Ideal.Value.run_blocks m g, (θ_run Cert.Reference5Ideal.defs _ _).mono (fun r h c => ?_) (Cert.Reference5Ideal.Value.run m' g')⟩
  obtain ⟨h0, h1⟩ := h c
  refine ⟨?_, h1⟩
  rw [h0, Cert.Reference5Ideal.Read.val_main_v4_eq, (hagree c).1, (hagree c).2]
  exact (Cert.DownDwValue.final m c).symm

/-! ## The up projection with the gate -/

/-- The kernel runs to the end from every memory and leaves its arguments and every semaphore as they should be. -/
theorem frame_kernel_up : Cert.quiescent_Kernel6 := fun m ρ _ => Cert.Kernel6.Gen.frame m ρ

/-- So does its idealization. -/
theorem frame_ideal_up : Cert.quiescent_Kernel6Ideal := fun m ρ _ => Cert.Kernel6Ideal.Gen.frame m ρ

/-- So does the reference. -/
theorem frame_reference_up : Cert.quiescent_Reference6Ideal := fun m g _ =>
  (θ_run Cert.Reference6Ideal.defs _ _).mono (fun r h => ⟨fun c => (h c).2.2, sem_eq_zero_of_no_sems (by decide) r.2⟩)
    (Cert.Reference6Ideal.Value.run m g)

/-- On extended reals each of the kernel's two arrays is the reference's. -/
theorem value_up : Cert.algebraic_Kernel6Ideal_Reference6Ideal := by
  intro m g m' g' _ hagree
  refine ⟨_, _, Cert.Kernel6Ideal.Value.run_blocks m g, (θ_run Cert.Reference6Ideal.defs _ _).mono (fun r h c => ?_) (Cert.Reference6Ideal.Value.run m' g')⟩
  obtain ⟨h0, h1, h2⟩ := h c
  refine ⟨?_, ?_, h2⟩
  · rw [h0, Cert.Reference6Ideal.Read.val_main_v8_eq, (hagree c).1, (hagree c).2]
    exact (Cert.UpValue.final_gu m c).symm
  · rw [h1, Cert.Reference6Ideal.Read.val_main_v11_eq, (hagree c).1, (hagree c).2]
    exact (Cert.UpValue.final_act m c).symm

/-! ## The down projection -/

/-- The kernel runs to the end from every memory and leaves its arguments and every semaphore as they should be. -/
theorem frame_kernel_down : Cert.quiescent_Kernel7 := fun m ρ _ => Cert.Kernel7.Gen.frame m ρ

/-- So does its idealization. -/
theorem frame_ideal_down : Cert.quiescent_Kernel7Ideal := fun m ρ _ => Cert.Kernel7Ideal.Gen.frame m ρ

/-- So does the reference. -/
theorem frame_reference_down : Cert.quiescent_Reference7Ideal := fun m g _ =>
  (θ_run Cert.Reference7Ideal.defs _ _).mono (fun r h => ⟨fun c => (h c).2, sem_eq_zero_of_no_sems (by decide) r.2⟩)
    (Cert.Reference7Ideal.Value.run m g)

/-- On extended reals the kernel's array is the reference's. -/
theorem value_down : Cert.algebraic_Kernel7Ideal_Reference7Ideal := by
  intro m g m' g' _ hagree
  refine ⟨_, Cert.Kernel7Ideal.Value.run_blocks m g, (θ_run Cert.Reference7Ideal.defs _ _).mono (fun r h c => ?_) (Cert.Reference7Ideal.Value.run m' g')⟩
  obtain ⟨h0, h1⟩ := h c
  refine ⟨?_, h1⟩
  rw [h0, Cert.Reference7Ideal.Read.val_main_v1_eq, (hagree c).1, (hagree c).2]
  exact (Cert.DownValue.final m c).symm

/-! ## The gMLP's input projection -/

/-- The kernel runs to the end from every memory and leaves its arguments and every semaphore as they should be. -/
theorem frame_kernel_gmlp_in : Cert.quiescent_Kernel8 := fun m ρ _ => Cert.Kernel8.Gen.frame m ρ

/-- So does its idealization. -/
theorem frame_ideal_gmlp_in : Cert.quiescent_Kernel8Ideal := fun m ρ _ => Cert.Kernel8Ideal.Gen.frame m ρ

/-- So does the reference. -/
theorem frame_reference_gmlp_in : Cert.quiescent_Reference8Ideal := fun m g _ =>
  (θ_run Cert.Reference8Ideal.defs _ _).mono (fun r h => ⟨fun c => (h c).2, sem_eq_zero_of_no_sems (by decide) r.2⟩)
    (Cert.Reference8Ideal.Value.run m g)

/-- On extended reals the kernel's array is the reference's. -/
theorem value_gmlp_in : Cert.algebraic_Kernel8Ideal_Reference8Ideal := by
  intro m g m' g' _ hagree
  refine ⟨_, Cert.Kernel8Ideal.Value.run_blocks m g, (θ_run Cert.Reference8Ideal.defs _ _).mono (fun r h c => ?_) (Cert.Reference8Ideal.Value.run m' g')⟩
  obtain ⟨h0, h1⟩ := h c
  refine ⟨?_, h1⟩
  rw [h0, Cert.Reference8Ideal.Read.val_main_v2_eq, (hagree c).1, (hagree c).2]
  exact (Cert.GmlpInValue.final m c).symm

/-! ## The gMLP's output projection -/

/-- The kernel runs to the end from every memory and leaves its arguments and every semaphore as they should be. -/
theorem frame_kernel_gmlp_out : Cert.quiescent_Kernel9 := fun m ρ _ => Cert.Kernel9.Gen.frame m ρ

/-- So does its idealization. -/
theorem frame_ideal_gmlp_out : Cert.quiescent_Kernel9Ideal := fun m ρ _ => Cert.Kernel9Ideal.Gen.frame m ρ

/-- So does the reference. -/
theorem frame_reference_gmlp_out : Cert.quiescent_Reference9Ideal := fun m g _ =>
  (θ_run Cert.Reference9Ideal.defs _ _).mono (fun r h => ⟨fun c => (h c).2, sem_eq_zero_of_no_sems (by decide) r.2⟩)
    (Cert.Reference9Ideal.Value.run m g)

/-- On extended reals the kernel's array is the reference's. -/
theorem value_gmlp_out : Cert.algebraic_Kernel9Ideal_Reference9Ideal := by
  intro m g m' g' _ hagree
  refine ⟨_, Cert.Kernel9Ideal.Value.run_blocks m g, (θ_run Cert.Reference9Ideal.defs _ _).mono (fun r h c => ?_) (Cert.Reference9Ideal.Value.run m' g')⟩
  obtain ⟨h0, h1⟩ := h c
  refine ⟨?_, h1⟩
  rw [h0, Cert.Reference9Ideal.Read.val_main_v1_eq, (hagree c).1, (hagree c).2]
  exact (Cert.GmlpOutValue.final m c).symm

/-! ## The output projection's weight gradient -/

/-- The kernel runs to the end from every memory and leaves its arguments and every semaphore as they should be. -/
theorem frame_kernel_gmlp_out_dw : Cert.quiescent_Kernel10 := fun m ρ _ => Cert.Kernel10.Gen.frame m ρ

/-- So does its idealization. -/
theorem frame_ideal_gmlp_out_dw : Cert.quiescent_Kernel10Ideal := fun m ρ _ => Cert.Kernel10Ideal.Gen.frame m ρ

/-- So does the reference. -/
theorem frame_reference_gmlp_out_dw : Cert.quiescent_Reference10Ideal := fun m g _ =>
  (θ_run Cert.Reference10Ideal.defs _ _).mono (fun r h => ⟨fun c => (h c).2, sem_eq_zero_of_no_sems (by decide) r.2⟩)
    (Cert.Reference10Ideal.Value.run m g)

/-- On extended reals the kernel's array is the reference's. -/
theorem value_gmlp_out_dw : Cert.algebraic_Kernel10Ideal_Reference10Ideal := by
  intro m g m' g' _ hagree
  refine ⟨_, Cert.Kernel10Ideal.Value.run_blocks m g, (θ_run Cert.Reference10Ideal.defs _ _).mono (fun r h c => ?_) (Cert.Reference10Ideal.Value.run m' g')⟩
  obtain ⟨h0, h1⟩ := h c
  refine ⟨?_, h1⟩
  rw [h0, Cert.Reference10Ideal.Read.val_main_v4_eq, (hagree c).1, (hagree c).2]
  exact (Cert.GmlpOutDwValue.final m c).symm

/-! ## The output projection's input gradient -/

/-- The kernel runs to the end from every memory and leaves its arguments and every semaphore as they should be. -/
theorem frame_kernel_gmlp_out_dx : Cert.quiescent_Kernel11 := fun m ρ _ => Cert.Kernel11.Gen.frame m ρ

/-- So does its idealization. -/
theorem frame_ideal_gmlp_out_dx : Cert.quiescent_Kernel11Ideal := fun m ρ _ => Cert.Kernel11Ideal.Gen.frame m ρ

/-- So does the reference. -/
theorem frame_reference_gmlp_out_dx : Cert.quiescent_Reference11Ideal := fun m g _ =>
  (θ_run Cert.Reference11Ideal.defs _ _).mono (fun r h => ⟨fun c => (h c).2, sem_eq_zero_of_no_sems (by decide) r.2⟩)
    (Cert.Reference11Ideal.Value.run m g)

/-- On extended reals the kernel's array is the reference's. -/
theorem value_gmlp_out_dx : Cert.algebraic_Kernel11Ideal_Reference11Ideal := by
  intro m g m' g' _ hagree
  refine ⟨_, Cert.Kernel11Ideal.Value.run_blocks m g, (θ_run Cert.Reference11Ideal.defs _ _).mono (fun r h c => ?_) (Cert.Reference11Ideal.Value.run m' g')⟩
  obtain ⟨h0, h1⟩ := h c
  refine ⟨?_, h1⟩
  rw [h0, Cert.Reference11Ideal.Read.val_main_v4_eq, (hagree c).1, (hagree c).2]
  exact (Cert.GmlpOutDxValue.final m c).symm

/-! ## The input projection's weight gradient -/

/-- The kernel runs to the end from every memory and leaves its arguments and every semaphore as they should be. -/
theorem frame_kernel_gmlp_in_dw : Cert.quiescent_Kernel12 := fun m ρ _ => Cert.Kernel12.Gen.frame m ρ

/-- So does its idealization. -/
theorem frame_ideal_gmlp_in_dw : Cert.quiescent_Kernel12Ideal := fun m ρ _ => Cert.Kernel12Ideal.Gen.frame m ρ

/-- So does the reference. -/
theorem frame_reference_gmlp_in_dw : Cert.quiescent_Reference12Ideal := fun m g _ =>
  (θ_run Cert.Reference12Ideal.defs _ _).mono (fun r h => ⟨fun c => (h c).2, sem_eq_zero_of_no_sems (by decide) r.2⟩)
    (Cert.Reference12Ideal.Value.run m g)

/-- On extended reals the kernel's array is the reference's. -/
theorem value_gmlp_in_dw : Cert.algebraic_Kernel12Ideal_Reference12Ideal := by
  intro m g m' g' _ hagree
  refine ⟨_, Cert.Kernel12Ideal.Value.run_blocks m g, (θ_run Cert.Reference12Ideal.defs _ _).mono (fun r h c => ?_) (Cert.Reference12Ideal.Value.run m' g')⟩
  obtain ⟨h0, h1⟩ := h c
  refine ⟨?_, h1⟩
  rw [h0, Cert.Reference12Ideal.Read.val_main_v4_eq, (hagree c).1, (hagree c).2]
  exact (Cert.GmlpInDwValue.final m c).symm

/-! ## The input projection's input gradient -/

/-- The kernel runs to the end from every memory and leaves its arguments and every semaphore as they should be. -/
theorem frame_kernel_gmlp_in_dx : Cert.quiescent_Kernel13 := fun m ρ _ => Cert.Kernel13.Gen.frame m ρ

/-- So does its idealization. -/
theorem frame_ideal_gmlp_in_dx : Cert.quiescent_Kernel13Ideal := fun m ρ _ => Cert.Kernel13Ideal.Gen.frame m ρ

/-- So does the reference. -/
theorem frame_reference_gmlp_in_dx : Cert.quiescent_Reference13Ideal := fun m g _ =>
  (θ_run Cert.Reference13Ideal.defs _ _).mono (fun r h => ⟨fun c => (h c).2, sem_eq_zero_of_no_sems (by decide) r.2⟩)
    (Cert.Reference13Ideal.Value.run m g)

/-- On extended reals the kernel's array is the reference's. -/
theorem value_gmlp_in_dx : Cert.algebraic_Kernel13Ideal_Reference13Ideal := by
  intro m g m' g' _ hagree
  refine ⟨_, Cert.Kernel13Ideal.Value.run_blocks m g, (θ_run Cert.Reference13Ideal.defs _ _).mono (fun r h c => ?_) (Cert.Reference13Ideal.Value.run m' g')⟩
  obtain ⟨h0, h1⟩ := h c
  refine ⟨?_, h1⟩
  rw [h0, Cert.Reference13Ideal.Read.val_main_v3_eq, (hagree c).1, (hagree c).2]
  exact (Cert.GmlpInDxValue.final m c).symm

/-! ## The attention's query and gate projection -/

/-- The kernel runs to the end from every memory and leaves its arguments and every semaphore as they should be. -/
theorem frame_kernel_fox_qg : Cert.quiescent_Kernel14 := fun m ρ _ => Cert.Kernel14.Gen.frame m ρ

/-- So does its idealization. -/
theorem frame_ideal_fox_qg : Cert.quiescent_Kernel14Ideal := fun m ρ _ => Cert.Kernel14Ideal.Gen.frame m ρ

/-- So does the reference. -/
theorem frame_reference_fox_qg : Cert.quiescent_Reference14Ideal := fun m g _ =>
  (θ_run Cert.Reference14Ideal.defs _ _).mono (fun r h => ⟨fun c => (h c).2, sem_eq_zero_of_no_sems (by decide) r.2⟩)
    (Cert.Reference14Ideal.Value.run m g)

/-- On extended reals the kernel's array is the reference's. -/
theorem value_fox_qg : Cert.algebraic_Kernel14Ideal_Reference14Ideal := by
  intro m g m' g' _ hagree
  refine ⟨_, Cert.Kernel14Ideal.Value.run_blocks m g, (θ_run Cert.Reference14Ideal.defs _ _).mono (fun r h c => ?_) (Cert.Reference14Ideal.Value.run m' g')⟩
  obtain ⟨h0, h1⟩ := h c
  refine ⟨?_, h1⟩
  rw [h0, Cert.Reference14Ideal.Read.val_main_v2_eq, (hagree c).1, (hagree c).2]
  exact (Cert.FoxQgValue.final m c).symm

/-! ## The attention's output projection -/

/-- The kernel runs to the end from every memory and leaves its arguments and every semaphore as they should be. -/
theorem frame_kernel_fox_out : Cert.quiescent_Kernel15 := fun m ρ _ => Cert.Kernel15.Gen.frame m ρ

/-- So does its idealization. -/
theorem frame_ideal_fox_out : Cert.quiescent_Kernel15Ideal := fun m ρ _ => Cert.Kernel15Ideal.Gen.frame m ρ

/-- So does the reference. -/
theorem frame_reference_fox_out : Cert.quiescent_Reference15Ideal := fun m g _ =>
  (θ_run Cert.Reference15Ideal.defs _ _).mono (fun r h => ⟨fun c => (h c).2, sem_eq_zero_of_no_sems (by decide) r.2⟩)
    (Cert.Reference15Ideal.Value.run m g)

/-- On extended reals the kernel's array is the reference's. -/
theorem value_fox_out : Cert.algebraic_Kernel15Ideal_Reference15Ideal := by
  intro m g m' g' _ hagree
  refine ⟨_, Cert.Kernel15Ideal.Value.run_blocks m g, (θ_run Cert.Reference15Ideal.defs _ _).mono (fun r h c => ?_) (Cert.Reference15Ideal.Value.run m' g')⟩
  obtain ⟨h0, h1⟩ := h c
  refine ⟨?_, h1⟩
  rw [h0, Cert.Reference15Ideal.Read.val_main_v1_eq, (hagree c).1, (hagree c).2]
  exact (Cert.FoxOutValue.final m c).symm

/-! ## The attention output projection's weight gradient -/

/-- The kernel runs to the end from every memory and leaves its arguments and every semaphore as they should be. -/
theorem frame_kernel_fox_out_dw : Cert.quiescent_Kernel16 := fun m ρ _ => Cert.Kernel16.Gen.frame m ρ

/-- So does its idealization. -/
theorem frame_ideal_fox_out_dw : Cert.quiescent_Kernel16Ideal := fun m ρ _ => Cert.Kernel16Ideal.Gen.frame m ρ

/-- So does the reference. -/
theorem frame_reference_fox_out_dw : Cert.quiescent_Reference16Ideal := fun m g _ =>
  (θ_run Cert.Reference16Ideal.defs _ _).mono (fun r h => ⟨fun c => (h c).2, sem_eq_zero_of_no_sems (by decide) r.2⟩)
    (Cert.Reference16Ideal.Value.run m g)

/-- On extended reals the kernel's array is the reference's. -/
theorem value_fox_out_dw : Cert.algebraic_Kernel16Ideal_Reference16Ideal := by
  intro m g m' g' _ hagree
  refine ⟨_, Cert.Kernel16Ideal.Value.run_blocks m g, (θ_run Cert.Reference16Ideal.defs _ _).mono (fun r h c => ?_) (Cert.Reference16Ideal.Value.run m' g')⟩
  obtain ⟨h0, h1⟩ := h c
  refine ⟨?_, h1⟩
  rw [h0, Cert.Reference16Ideal.Read.val_main_v4_eq, (hagree c).1, (hagree c).2]
  exact (Cert.FoxOutDwValue.final m c).symm

/-! ## The attention output projection's input gradient -/

/-- The kernel runs to the end from every memory and leaves its arguments and every semaphore as they should be. -/
theorem frame_kernel_fox_out_dx : Cert.quiescent_Kernel17 := fun m ρ _ => Cert.Kernel17.Gen.frame m ρ

/-- So does its idealization. -/
theorem frame_ideal_fox_out_dx : Cert.quiescent_Kernel17Ideal := fun m ρ _ => Cert.Kernel17Ideal.Gen.frame m ρ

/-- So does the reference. -/
theorem frame_reference_fox_out_dx : Cert.quiescent_Reference17Ideal := fun m g _ =>
  (θ_run Cert.Reference17Ideal.defs _ _).mono (fun r h => ⟨fun c => (h c).2, sem_eq_zero_of_no_sems (by decide) r.2⟩)
    (Cert.Reference17Ideal.Value.run m g)

/-- On extended reals the kernel's array is the reference's. -/
theorem value_fox_out_dx : Cert.algebraic_Kernel17Ideal_Reference17Ideal := by
  intro m g m' g' _ hagree
  refine ⟨_, Cert.Kernel17Ideal.Value.run_blocks m g, (θ_run Cert.Reference17Ideal.defs _ _).mono (fun r h c => ?_) (Cert.Reference17Ideal.Value.run m' g')⟩
  obtain ⟨h0, h1⟩ := h c
  refine ⟨?_, h1⟩
  rw [h0, Cert.Reference17Ideal.Read.val_main_v3_eq, (hagree c).1, (hagree c).2]
  exact (Cert.FoxOutDxValue.final m c).symm

/-! ## The query and gate projection's weight gradient -/

/-- The kernel runs to the end from every memory and leaves its arguments and every semaphore as they should be. -/
theorem frame_kernel_fox_qg_dw : Cert.quiescent_Kernel18 := fun m ρ _ => Cert.Kernel18.Gen.frame m ρ

/-- So does its idealization. -/
theorem frame_ideal_fox_qg_dw : Cert.quiescent_Kernel18Ideal := fun m ρ _ => Cert.Kernel18Ideal.Gen.frame m ρ

/-- So does the reference. -/
theorem frame_reference_fox_qg_dw : Cert.quiescent_Reference18Ideal := fun m g _ =>
  (θ_run Cert.Reference18Ideal.defs _ _).mono (fun r h => ⟨fun c => (h c).2, sem_eq_zero_of_no_sems (by decide) r.2⟩)
    (Cert.Reference18Ideal.Value.run m g)

/-- On extended reals the kernel's array is the reference's. -/
theorem value_fox_qg_dw : Cert.algebraic_Kernel18Ideal_Reference18Ideal := by
  intro m g m' g' _ hagree
  refine ⟨_, Cert.Kernel18Ideal.Value.run_blocks m g, (θ_run Cert.Reference18Ideal.defs _ _).mono (fun r h c => ?_) (Cert.Reference18Ideal.Value.run m' g')⟩
  obtain ⟨h0, h1⟩ := h c
  refine ⟨?_, h1⟩
  rw [h0, Cert.Reference18Ideal.Read.val_main_v4_eq, (hagree c).1, (hagree c).2]
  exact (Cert.FoxQgDwValue.final m c).symm

/-! ## The query and gate projection's input gradient -/

/-- The kernel runs to the end from every memory and leaves its arguments and every semaphore as they should be. -/
theorem frame_kernel_fox_qg_dx : Cert.quiescent_Kernel19 := fun m ρ _ => Cert.Kernel19.Gen.frame m ρ

/-- So does its idealization. -/
theorem frame_ideal_fox_qg_dx : Cert.quiescent_Kernel19Ideal := fun m ρ _ => Cert.Kernel19Ideal.Gen.frame m ρ

/-- So does the reference. -/
theorem frame_reference_fox_qg_dx : Cert.quiescent_Reference19Ideal := fun m g _ =>
  (θ_run Cert.Reference19Ideal.defs _ _).mono (fun r h => ⟨fun c => (h c).2, sem_eq_zero_of_no_sems (by decide) r.2⟩)
    (Cert.Reference19Ideal.Value.run m g)

/-- On extended reals the kernel's array is the reference's. -/
theorem value_fox_qg_dx : Cert.algebraic_Kernel19Ideal_Reference19Ideal := by
  intro m g m' g' _ hagree
  refine ⟨_, Cert.Kernel19Ideal.Value.run_blocks m g, (θ_run Cert.Reference19Ideal.defs _ _).mono (fun r h c => ?_) (Cert.Reference19Ideal.Value.run m' g')⟩
  obtain ⟨h0, h1⟩ := h c
  refine ⟨?_, h1⟩
  rw [h0, Cert.Reference19Ideal.Read.val_main_v3_eq, (hagree c).1, (hagree c).2]
  exact (Cert.FoxQgDxValue.final m c).symm

/-! ## The gMLP gate, forward -/

/-- The kernel runs to the end from every memory and leaves its arguments and every semaphore as they should be. -/
theorem frame_kernel_gate : Cert.quiescent_Kernel20 := fun m ρ _ => Cert.Kernel20.Gen.frame m ρ

/-- So does its idealization. -/
theorem frame_ideal_gate : Cert.quiescent_Kernel20Ideal := fun m ρ _ => Cert.Kernel20Ideal.Gen.frame m ρ

/-- So does the reference. -/
theorem frame_reference_gate : Cert.quiescent_Reference20Ideal := fun m g _ =>
  (θ_run Cert.Reference20Ideal.defs _ _).mono (fun r h => ⟨fun c => (h c).2, sem_eq_zero_of_no_sems (by decide) r.2⟩)
    (Cert.Reference20Ideal.Value.run m g)

/-- On extended reals the kernel's array is the reference's. -/
theorem value_gate : Cert.algebraic_Kernel20Ideal_Reference20Ideal := by
  intro m g m' g' _ hagree
  refine ⟨_, Cert.Kernel20Ideal.Value.run_blocks m g, (θ_run Cert.Reference20Ideal.defs _ _).mono (fun r h c => ?_) (Cert.Reference20Ideal.Value.run m' g')⟩
  obtain ⟨h0, h1⟩ := h c
  obtain ⟨a0, a1, a2, a3, a4, a5⟩ := hagree c
  refine ⟨?_, h1⟩
  rw [h0, Cert.Reference20Ideal.Read.val_main_v73_eq, a0, a1, a2, a3, a4, a5]
  exact (Cert.GateValue.final m c).symm

/-! ## The shared key and value projection -/

/-- The kernel runs to the end from every memory and leaves its arguments and every semaphore as they should be. -/
theorem frame_kernel_kv : Cert.quiescent_Kernel21 := fun m ρ _ => Cert.Kernel21.Gen.frame m ρ

/-- So does its idealization. -/
theorem frame_ideal_kv : Cert.quiescent_Kernel21Ideal := fun m ρ _ => Cert.Kernel21Ideal.Gen.frame m ρ

/-- So does the reference. -/
theorem frame_reference_kv : Cert.quiescent_Reference21Ideal := fun m g _ =>
  (θ_run Cert.Reference21Ideal.defs _ _).mono (fun r h => ⟨fun c => (h c).2, sem_eq_zero_of_no_sems (by decide) r.2⟩)
    (Cert.Reference21Ideal.Value.run m g)

/-- On extended reals the kernel's array is the reference's. -/
theorem value_kv : Cert.algebraic_Kernel21Ideal_Reference21Ideal := by
  intro m g m' g' _ hagree
  refine ⟨_, Cert.Kernel21Ideal.Value.run_blocks m g, (θ_run Cert.Reference21Ideal.defs _ _).mono (fun r h c => ?_) (Cert.Reference21Ideal.Value.run m' g')⟩
  obtain ⟨h0, h1⟩ := h c
  refine ⟨?_, h1⟩
  rw [h0, Cert.Reference21Ideal.Read.val_main_v0_eq, (hagree c).1, (hagree c).2]
  exact (Cert.KvValue.final m c).symm

/-! ## The shared projection's weight gradient -/

/-- The kernel runs to the end from every memory and leaves its arguments and every semaphore as they should be. -/
theorem frame_kernel_kv_dw : Cert.quiescent_Kernel22 := fun m ρ _ => Cert.Kernel22.Gen.frame m ρ

/-- So does its idealization. -/
theorem frame_ideal_kv_dw : Cert.quiescent_Kernel22Ideal := fun m ρ _ => Cert.Kernel22Ideal.Gen.frame m ρ

/-- So does the reference. -/
theorem frame_reference_kv_dw : Cert.quiescent_Reference22Ideal := fun m g _ =>
  (θ_run Cert.Reference22Ideal.defs _ _).mono (fun r h => ⟨fun c => (h c).2, sem_eq_zero_of_no_sems (by decide) r.2⟩)
    (Cert.Reference22Ideal.Value.run m g)

/-- On extended reals the kernel's array is the reference's. -/
theorem value_kv_dw : Cert.algebraic_Kernel22Ideal_Reference22Ideal := by
  intro m g m' g' _ hagree
  refine ⟨_, Cert.Kernel22Ideal.Value.run_blocks m g, (θ_run Cert.Reference22Ideal.defs _ _).mono (fun r h c => ?_) (Cert.Reference22Ideal.Value.run m' g')⟩
  obtain ⟨h0, h1⟩ := h c
  refine ⟨?_, h1⟩
  rw [h0, Cert.Reference22Ideal.Read.val_main_v4_eq, (hagree c).1, (hagree c).2]
  exact (Cert.KvDwValue.final m c).symm

/-! ## The shared projection's input gradient -/

/-- The kernel runs to the end from every memory and leaves its arguments and every semaphore as they should be. -/
theorem frame_kernel_kv_dx : Cert.quiescent_Kernel23 := fun m ρ _ => Cert.Kernel23.Gen.frame m ρ

/-- So does its idealization. -/
theorem frame_ideal_kv_dx : Cert.quiescent_Kernel23Ideal := fun m ρ _ => Cert.Kernel23Ideal.Gen.frame m ρ

/-- So does the reference. -/
theorem frame_reference_kv_dx : Cert.quiescent_Reference23Ideal := fun m g _ =>
  (θ_run Cert.Reference23Ideal.defs _ _).mono (fun r h => ⟨fun c => (h c).2, sem_eq_zero_of_no_sems (by decide) r.2⟩)
    (Cert.Reference23Ideal.Value.run m g)

/-- On extended reals the kernel's array is the reference's. -/
theorem value_kv_dx : Cert.algebraic_Kernel23Ideal_Reference23Ideal := by
  intro m g m' g' _ hagree
  refine ⟨_, Cert.Kernel23Ideal.Value.run_blocks m g, (θ_run Cert.Reference23Ideal.defs _ _).mono (fun r h c => ?_) (Cert.Reference23Ideal.Value.run m' g')⟩
  obtain ⟨h0, h1⟩ := h c
  refine ⟨?_, h1⟩
  rw [h0, Cert.Reference23Ideal.Read.val_main_v2_eq, (hagree c).1, (hagree c).2]
  exact (Cert.KvDxValue.final m c).symm

theorem claim : Cert.Claim := ⟨
  Kernel.Gen.facts, KernelIdeal.Gen.facts, ReferenceIdeal.Gen.facts, Kernel2.Gen.facts, Kernel2Ideal.Gen.facts,
  Reference2Ideal.Gen.facts, Kernel3.Gen.facts, Kernel3Ideal.Gen.facts, Reference3Ideal.Gen.facts,
  Kernel4.Gen.facts, Kernel4Ideal.Gen.facts, Reference4Ideal.Gen.facts, Kernel5.Gen.facts,
  Kernel5Ideal.Gen.facts, Reference5Ideal.Gen.facts, Kernel6.Gen.facts, Kernel6Ideal.Gen.facts,
  Reference6Ideal.Gen.facts, Kernel7.Gen.facts, Kernel7Ideal.Gen.facts, Reference7Ideal.Gen.facts,
  Kernel8.Gen.facts, Kernel8Ideal.Gen.facts, Reference8Ideal.Gen.facts, Kernel9.Gen.facts,
  Kernel9Ideal.Gen.facts, Reference9Ideal.Gen.facts, Kernel10.Gen.facts, Kernel10Ideal.Gen.facts,
  Reference10Ideal.Gen.facts, Kernel11.Gen.facts, Kernel11Ideal.Gen.facts, Reference11Ideal.Gen.facts,
  Kernel12.Gen.facts, Kernel12Ideal.Gen.facts, Reference12Ideal.Gen.facts, Kernel13.Gen.facts,
  Kernel13Ideal.Gen.facts, Reference13Ideal.Gen.facts, Kernel14.Gen.facts, Kernel14Ideal.Gen.facts,
  Reference14Ideal.Gen.facts, Kernel15.Gen.facts, Kernel15Ideal.Gen.facts, Reference15Ideal.Gen.facts,
  Kernel16.Gen.facts, Kernel16Ideal.Gen.facts, Reference16Ideal.Gen.facts, Kernel17.Gen.facts,
  Kernel17Ideal.Gen.facts, Reference17Ideal.Gen.facts, Kernel18.Gen.facts, Kernel18Ideal.Gen.facts,
  Reference18Ideal.Gen.facts, Kernel19.Gen.facts, Kernel19Ideal.Gen.facts, Reference19Ideal.Gen.facts,
  Kernel20.Gen.facts, Kernel20Ideal.Gen.facts, Reference20Ideal.Gen.facts, Kernel21.Gen.facts,
  Kernel21Ideal.Gen.facts, Reference21Ideal.Gen.facts, Kernel22.Gen.facts, Kernel22Ideal.Gen.facts,
  Reference22Ideal.Gen.facts, Kernel23.Gen.facts, Kernel23Ideal.Gen.facts, Reference23Ideal.Gen.facts,
  frame_kernel_ffn, frame_ideal_ffn, frame_reference_ffn, frame_kernel_gmlp, frame_ideal_gmlp,
  frame_reference_gmlp, frame_kernel_gu_dx, frame_ideal_gu_dx, frame_reference_gu_dx, frame_kernel_gu_dw,
  frame_ideal_gu_dw, frame_reference_gu_dw, frame_kernel_down_dw, frame_ideal_down_dw, frame_reference_down_dw,
  frame_kernel_up, frame_ideal_up, frame_reference_up, frame_kernel_down, frame_ideal_down,
  frame_reference_down, frame_kernel_gmlp_in, frame_ideal_gmlp_in, frame_reference_gmlp_in,
  frame_kernel_gmlp_out, frame_ideal_gmlp_out, frame_reference_gmlp_out, frame_kernel_gmlp_out_dw,
  frame_ideal_gmlp_out_dw, frame_reference_gmlp_out_dw, frame_kernel_gmlp_out_dx, frame_ideal_gmlp_out_dx,
  frame_reference_gmlp_out_dx, frame_kernel_gmlp_in_dw, frame_ideal_gmlp_in_dw, frame_reference_gmlp_in_dw,
  frame_kernel_gmlp_in_dx, frame_ideal_gmlp_in_dx, frame_reference_gmlp_in_dx, frame_kernel_fox_qg,
  frame_ideal_fox_qg, frame_reference_fox_qg, frame_kernel_fox_out, frame_ideal_fox_out,
  frame_reference_fox_out, frame_kernel_fox_out_dw, frame_ideal_fox_out_dw, frame_reference_fox_out_dw,
  frame_kernel_fox_out_dx, frame_ideal_fox_out_dx, frame_reference_fox_out_dx, frame_kernel_fox_qg_dw,
  frame_ideal_fox_qg_dw, frame_reference_fox_qg_dw, frame_kernel_fox_qg_dx, frame_ideal_fox_qg_dx,
  frame_reference_fox_qg_dx, frame_kernel_gate, frame_ideal_gate, frame_reference_gate, frame_kernel_kv,
  frame_ideal_kv, frame_reference_kv, frame_kernel_kv_dw, frame_ideal_kv_dw, frame_reference_kv_dw,
  frame_kernel_kv_dx, frame_ideal_kv_dx, frame_reference_kv_dx, trivial, value_ffn, trivial, value_gmlp,
  trivial, value_gu_dx, trivial, value_gu_dw, trivial, value_down_dw, trivial, value_up, trivial, value_down,
  trivial, value_gmlp_in, trivial, value_gmlp_out, trivial, value_gmlp_out_dw, trivial, value_gmlp_out_dx,
  trivial, value_gmlp_in_dw, trivial, value_gmlp_in_dx, trivial, value_fox_qg, trivial, value_fox_out, trivial,
  value_fox_out_dw, trivial, value_fox_out_dx, trivial, value_fox_qg_dw, trivial, value_fox_qg_dx, trivial,
  value_gate, trivial, value_kv, trivial, value_kv_dw, trivial, value_kv_dx⟩

end Cert.Proof

end
